-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![1024]⟩ ⟨1, ![8192]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![1024]⟩ ⟨1, ![8192]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S1024 .f32) (main_arg2 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_x_ReferenceIdeal.lean ====
abbrev S4096x8192 : Shape := ⟨2, ![4096, 8192]⟩
abbrev S8192 : Shape := ⟨1, ![8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : FVec F S8192 .f32) (main_arg2 : FVec F S8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x1024 : Shape := ⟨2, ![4096, 1024]⟩
abbrev S1024 : Shape := ⟨1, ![1024]⟩
abbrev S2x4096 : Shape := ⟨2, ![2, 4096]⟩
abbrev S8 : Shape := ⟨1, ![8]⟩
abbrev S1 : Shape := ⟨1, ![1]⟩
abbrev S_ : Shape := ⟨0, ![]⟩
abbrev S512x1024 : Shape := ⟨2, ![512, 1024]⟩
abbrev S512 : Shape := ⟨1, ![512]⟩
abbrev S1x512 : Shape := ⟨2, ![1, 512]⟩
abbrev S2x512 : Shape := ⟨2, ![2, 512]⟩
abbrev S4096x2 : Shape := ⟨2, ![4096, 2]⟩
abbrev S8x2x4096 : Shape := ⟨3, ![8, 2, 4096]⟩
abbrev S1x2x4096 : Shape := ⟨3, ![1, 2, 4096]⟩
abbrev S4096x1 : Shape := ⟨2, ![4096, 1]⟩
abbrev S1024x1024 : Shape := ⟨2, ![1024, 1024]⟩
abbrev S1024x2 : Shape := ⟨2, ![1024, 2]⟩
abbrev S1024x1 : Shape := ⟨2, ![1024, 1]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S2x4096, .f32⟩
  | .hbm, ⟨4, _⟩ => ⟨S4096x2, .f32⟩
  | .hbm, ⟨5, _⟩ => ⟨S4096x1024, .f32⟩
  | .local _ .vmem, ⟨0, _⟩ => ⟨S2x4096, .f32⟩
  | .local _ .vmem, ⟨1, _⟩ => ⟨S4096x1024, .f32⟩
  | .local _ .vmem, ⟨2, _⟩ => ⟨S2x4096, .f32⟩
  | .local _ .vmem, ⟨3, _⟩ => ⟨S4096x2, .f32⟩
  | .local _ .vmem, ⟨4, _⟩ => ⟨S8x2x4096, .f32⟩
  | .local _ .vmem, ⟨5, _⟩ => ⟨S1024x1024, .f32⟩
  | .local _ .vmem, ⟨6, _⟩ => ⟨S1024x1024, .f32⟩
  | .local _ .vmem, ⟨7, _⟩ => ⟨S1024x2, .f32⟩
  | .local _ .vmem, ⟨8, _⟩ => ⟨S1024x2, .f32⟩
  | .local _ .vmem, ⟨9, _⟩ => ⟨S1024, .f32⟩
  | .local _ .vmem, ⟨10, _⟩ => ⟨S1024, .f32⟩
  | .local _ .vmem, ⟨11, _⟩ => ⟨S1024x1024, .f32⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_scratch0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_scratch0 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg1_1 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg4_0 : Ref sig .tc := ⟨.vmem, 11, rfl⟩
abbrev cc2_stg4_1 : Ref sig .tc := ⟨.vmem, 12, rfl⟩
abbrev cc0_sem0_0 : DmaSem sig := 0
abbrev cc1_sem0_0 : DmaSem sig := 9
abbrev cc1_sem1_0 : DmaSem sig := 10
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem3_0 : DmaSem sig := 32
abbrev cc2_sem4_0 : DmaSem sig := 33
abbrev cc2_sem4_1 : DmaSem sig := 34
abbrev barrier0 : Sem sig := 0

abbrev nD : Nat := 8
abbrev τ : Topo := Topo.v7x

variable {F : FTy → Type} [FloatOps F]

abbrev grid0 : Pipeline.Grid := .none

abbrev stage0_0 : Fin 1 → Memref sig .tc .vmem S2x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

def k1_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v5 : Index := Scalar.indexCast v2
  let c0_1 : Index := 0#32
  let c0_2 : Index := 0#32
  ![v5.toNat, 0, 0]
def k1_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v10 : BitVec 32 := Scalar.addi v2 c1_i32_3
  let c8_i32_4 : BitVec 32 := 8#32
  let c0_i32 : BitVec 32 := 0#32
  let v11 : BitVec 1 := Scalar.cmpi .eq c8_i32_4 c0_i32
  let c1_i32_5 : BitVec 32 := 1#32
  let v12 : BitVec 32 := Scalar.select v11 c1_i32_5 c8_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_10 : BitVec 32 := 1#32
  let v21 : BitVec 32 := Scalar.muli v20 c1_i32_10
  let v22 : BitVec 32 := Scalar.addi c0_i32_11 v21
  v22.toNat
def k1_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v23 : BitVec 32 := Scalar.addi v2 c2_i32
  let c8_i32_12 : BitVec 32 := 8#32
  let c0_i32_13 : BitVec 32 := 0#32
  let v24 : BitVec 1 := Scalar.cmpi .eq c8_i32_12 c0_i32_13
  let c1_i32_14 : BitVec 32 := 1#32
  let v25 : BitVec 32 := Scalar.select v24 c1_i32_14 c8_i32_12
  let v26 : BitVec 32 := Scalar.remsi v23 v25
  let c0_i32_16 : BitVec 32 := 0#32
  let v28 : BitVec 1 := Scalar.cmpi .slt v26 c0_i32_16
  let c0_i32_17 : BitVec 32 := 0#32
  let v29 : BitVec 1 := Scalar.cmpi .slt v25 c0_i32_17
  let v30 : BitVec 1 := Scalar.xori v28 v29
  let c0_i32_15 : BitVec 32 := 0#32
  let v27 : BitVec 1 := Scalar.cmpi .ne v26 c0_i32_15
  let v31 : BitVec 1 := Scalar.andi v30 v27
  let v32 : BitVec 32 := Scalar.addi v26 v25
  let v33 : BitVec 32 := Scalar.select v31 v32 v26
  let c1_i32_19 : BitVec 32 := 1#32
  let v34 : BitVec 32 := Scalar.muli v33 c1_i32_19
  let v35 : BitVec 32 := Scalar.addi c0_i32_20 v34
  v35.toNat
def k1_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v36 : BitVec 32 := Scalar.addi v2 c3_i32
  let c8_i32_21 : BitVec 32 := 8#32
  let c0_i32_22 : BitVec 32 := 0#32
  let v37 : BitVec 1 := Scalar.cmpi .eq c8_i32_21 c0_i32_22
  let c1_i32_23 : BitVec 32 := 1#32
  let v38 : BitVec 32 := Scalar.select v37 c1_i32_23 c8_i32_21
  let v39 : BitVec 32 := Scalar.remsi v36 v38
  let c0_i32_25 : BitVec 32 := 0#32
  let v41 : BitVec 1 := Scalar.cmpi .slt v39 c0_i32_25
  let c0_i32_26 : BitVec 32 := 0#32
  let v42 : BitVec 1 := Scalar.cmpi .slt v38 c0_i32_26
  let v43 : BitVec 1 := Scalar.xori v41 v42
  let c0_i32_24 : BitVec 32 := 0#32
  let v40 : BitVec 1 := Scalar.cmpi .ne v39 c0_i32_24
  let v44 : BitVec 1 := Scalar.andi v43 v40
  let v45 : BitVec 32 := Scalar.addi v39 v38
  let v46 : BitVec 32 := Scalar.select v44 v45 v39
  let c1_i32_28 : BitVec 32 := 1#32
  let v47 : BitVec 32 := Scalar.muli v46 c1_i32_28
  let v48 : BitVec 32 := Scalar.addi c0_i32_29 v47
  v48.toNat
def k1_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v49 : BitVec 32 := Scalar.addi v2 c4_i32
  let c8_i32_30 : BitVec 32 := 8#32
  let c0_i32_31 : BitVec 32 := 0#32
  let v50 : BitVec 1 := Scalar.cmpi .eq c8_i32_30 c0_i32_31
  let c1_i32_32 : BitVec 32 := 1#32
  let v51 : BitVec 32 := Scalar.select v50 c1_i32_32 c8_i32_30
  let v52 : BitVec 32 := Scalar.remsi v49 v51
  let c0_i32_34 : BitVec 32 := 0#32
  let v54 : BitVec 1 := Scalar.cmpi .slt v52 c0_i32_34
  let c0_i32_35 : BitVec 32 := 0#32
  let v55 : BitVec 1 := Scalar.cmpi .slt v51 c0_i32_35
  let v56 : BitVec 1 := Scalar.xori v54 v55
  let c0_i32_33 : BitVec 32 := 0#32
  let v53 : BitVec 1 := Scalar.cmpi .ne v52 c0_i32_33
  let v57 : BitVec 1 := Scalar.andi v56 v53
  let v58 : BitVec 32 := Scalar.addi v52 v51
  let v59 : BitVec 32 := Scalar.select v57 v58 v52
  let c1_i32_37 : BitVec 32 := 1#32
  let v60 : BitVec 32 := Scalar.muli v59 c1_i32_37
  let v61 : BitVec 32 := Scalar.addi c0_i32_38 v60
  v61.toNat
def k1_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v62 : BitVec 32 := Scalar.addi v2 c5_i32
  let c8_i32_39 : BitVec 32 := 8#32
  let c0_i32_40 : BitVec 32 := 0#32
  let v63 : BitVec 1 := Scalar.cmpi .eq c8_i32_39 c0_i32_40
  let c1_i32_41 : BitVec 32 := 1#32
  let v64 : BitVec 32 := Scalar.select v63 c1_i32_41 c8_i32_39
  let v65 : BitVec 32 := Scalar.remsi v62 v64
  let c0_i32_43 : BitVec 32 := 0#32
  let v67 : BitVec 1 := Scalar.cmpi .slt v65 c0_i32_43
  let c0_i32_44 : BitVec 32 := 0#32
  let v68 : BitVec 1 := Scalar.cmpi .slt v64 c0_i32_44
  let v69 : BitVec 1 := Scalar.xori v67 v68
  let c0_i32_42 : BitVec 32 := 0#32
  let v66 : BitVec 1 := Scalar.cmpi .ne v65 c0_i32_42
  let v70 : BitVec 1 := Scalar.andi v69 v66
  let v71 : BitVec 32 := Scalar.addi v65 v64
  let v72 : BitVec 32 := Scalar.select v70 v71 v65
  let c1_i32_46 : BitVec 32 := 1#32
  let v73 : BitVec 32 := Scalar.muli v72 c1_i32_46
  let v74 : BitVec 32 := Scalar.addi c0_i32_47 v73
  v74.toNat
def k1_dev6 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v75 : BitVec 32 := Scalar.addi v2 c6_i32
  let c8_i32_48 : BitVec 32 := 8#32
  let c0_i32_49 : BitVec 32 := 0#32
  let v76 : BitVec 1 := Scalar.cmpi .eq c8_i32_48 c0_i32_49
  let c1_i32_50 : BitVec 32 := 1#32
  let v77 : BitVec 32 := Scalar.select v76 c1_i32_50 c8_i32_48
  let v78 : BitVec 32 := Scalar.remsi v75 v77
  let c0_i32_52 : BitVec 32 := 0#32
  let v80 : BitVec 1 := Scalar.cmpi .slt v78 c0_i32_52
  let c0_i32_53 : BitVec 32 := 0#32
  let v81 : BitVec 1 := Scalar.cmpi .slt v77 c0_i32_53
  let v82 : BitVec 1 := Scalar.xori v80 v81
  let c0_i32_51 : BitVec 32 := 0#32
  let v79 : BitVec 1 := Scalar.cmpi .ne v78 c0_i32_51
  let v83 : BitVec 1 := Scalar.andi v82 v79
  let v84 : BitVec 32 := Scalar.addi v78 v77
  let v85 : BitVec 32 := Scalar.select v83 v84 v78
  let c1_i32_55 : BitVec 32 := 1#32
  let v86 : BitVec 32 := Scalar.muli v85 c1_i32_55
  let v87 : BitVec 32 := Scalar.addi c0_i32_56 v86
  v87.toNat
def k1_dev7 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v88 : BitVec 32 := Scalar.addi v2 c7_i32
  let c8_i32_57 : BitVec 32 := 8#32
  let c0_i32_58 : BitVec 32 := 0#32
  let v89 : BitVec 1 := Scalar.cmpi .eq c8_i32_57 c0_i32_58
  let c1_i32_59 : BitVec 32 := 1#32
  let v90 : BitVec 32 := Scalar.select v89 c1_i32_59 c8_i32_57
  let v91 : BitVec 32 := Scalar.remsi v88 v90
  let c0_i32_61 : BitVec 32 := 0#32
  let v93 : BitVec 1 := Scalar.cmpi .slt v91 c0_i32_61
  let c0_i32_62 : BitVec 32 := 0#32
  let v94 : BitVec 1 := Scalar.cmpi .slt v90 c0_i32_62
  let v95 : BitVec 1 := Scalar.xori v93 v94
  let c0_i32_60 : BitVec 32 := 0#32
  let v92 : BitVec 1 := Scalar.cmpi .ne v91 c0_i32_60
  let v96 : BitVec 1 := Scalar.andi v95 v92
  let v97 : BitVec 32 := Scalar.addi v91 v90
  let v98 : BitVec 32 := Scalar.select v96 v97 v91
  let c1_i32_64 : BitVec 32 := 1#32
  let v99 : BitVec 32 := Scalar.muli v98 c1_i32_64
  let v100 : BitVec 32 := Scalar.addi c0_i32_65 v99
  v100.toNat
def k1_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k1_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_77 : BitVec 32 := 0#32
  let c0_i32_78 : BitVec 32 := 0#32
  ![v2.toNat, 0, 0]
def k1_dev8 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_67 : BitVec 32 := 1#32
  let v101 : BitVec 32 := Scalar.addi v2 c1_i32_67
  let c8_i32_68 : BitVec 32 := 8#32
  let c0_i32_69 : BitVec 32 := 0#32
  let v102 : BitVec 1 := Scalar.cmpi .eq c8_i32_68 c0_i32_69
  let c1_i32_70 : BitVec 32 := 1#32
  let v103 : BitVec 32 := Scalar.select v102 c1_i32_70 c8_i32_68
  let v104 : BitVec 32 := Scalar.remsi v101 v103
  let c0_i32_72 : BitVec 32 := 0#32
  let v106 : BitVec 1 := Scalar.cmpi .slt v104 c0_i32_72
  let c0_i32_73 : BitVec 32 := 0#32
  let v107 : BitVec 1 := Scalar.cmpi .slt v103 c0_i32_73
  let v108 : BitVec 1 := Scalar.xori v106 v107
  let c0_i32_71 : BitVec 32 := 0#32
  let v105 : BitVec 1 := Scalar.cmpi .ne v104 c0_i32_71
  let v109 : BitVec 1 := Scalar.andi v108 v105
  let v110 : BitVec 32 := Scalar.addi v104 v103
  let v111 : BitVec 32 := Scalar.select v109 v110 v104
  let c1_i32_75 : BitVec 32 := 1#32
  let v112 : BitVec 32 := Scalar.muli v111 c1_i32_75
  let v113 : BitVec 32 := Scalar.addi c0_i32_76 v112
  v113.toNat
def k1_dev9 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_81 : BitVec 32 := 2#32
  let v122 : BitVec 32 := Scalar.addi v2 c2_i32_81
  let c8_i32_82 : BitVec 32 := 8#32
  let c0_i32_83 : BitVec 32 := 0#32
  let v123 : BitVec 1 := Scalar.cmpi .eq c8_i32_82 c0_i32_83
  let c1_i32_84 : BitVec 32 := 1#32
  let v124 : BitVec 32 := Scalar.select v123 c1_i32_84 c8_i32_82
  let v125 : BitVec 32 := Scalar.remsi v122 v124
  let c0_i32_86 : BitVec 32 := 0#32
  let v127 : BitVec 1 := Scalar.cmpi .slt v125 c0_i32_86
  let c0_i32_87 : BitVec 32 := 0#32
  let v128 : BitVec 1 := Scalar.cmpi .slt v124 c0_i32_87
  let v129 : BitVec 1 := Scalar.xori v127 v128
  let c0_i32_85 : BitVec 32 := 0#32
  let v126 : BitVec 1 := Scalar.cmpi .ne v125 c0_i32_85
  let v130 : BitVec 1 := Scalar.andi v129 v126
  let v131 : BitVec 32 := Scalar.addi v125 v124
  let v132 : BitVec 32 := Scalar.select v130 v131 v125
  let c1_i32_89 : BitVec 32 := 1#32
  let v133 : BitVec 32 := Scalar.muli v132 c1_i32_89
  let v134 : BitVec 32 := Scalar.addi c0_i32_90 v133
  v134.toNat
def k1_dev10 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_95 : BitVec 32 := 3#32
  let v143 : BitVec 32 := Scalar.addi v2 c3_i32_95
  let c8_i32_96 : BitVec 32 := 8#32
  let c0_i32_97 : BitVec 32 := 0#32
  let v144 : BitVec 1 := Scalar.cmpi .eq c8_i32_96 c0_i32_97
  let c1_i32_98 : BitVec 32 := 1#32
  let v145 : BitVec 32 := Scalar.select v144 c1_i32_98 c8_i32_96
  let v146 : BitVec 32 := Scalar.remsi v143 v145
  let c0_i32_100 : BitVec 32 := 0#32
  let v148 : BitVec 1 := Scalar.cmpi .slt v146 c0_i32_100
  let c0_i32_101 : BitVec 32 := 0#32
  let v149 : BitVec 1 := Scalar.cmpi .slt v145 c0_i32_101
  let v150 : BitVec 1 := Scalar.xori v148 v149
  let c0_i32_99 : BitVec 32 := 0#32
  let v147 : BitVec 1 := Scalar.cmpi .ne v146 c0_i32_99
  let v151 : BitVec 1 := Scalar.andi v150 v147
  let v152 : BitVec 32 := Scalar.addi v146 v145
  let v153 : BitVec 32 := Scalar.select v151 v152 v146
  let c1_i32_103 : BitVec 32 := 1#32
  let v154 : BitVec 32 := Scalar.muli v153 c1_i32_103
  let v155 : BitVec 32 := Scalar.addi c0_i32_104 v154
  v155.toNat
def k1_dev11 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_109 : BitVec 32 := 4#32
  let v164 : BitVec 32 := Scalar.addi v2 c4_i32_109
  let c8_i32_110 : BitVec 32 := 8#32
  let c0_i32_111 : BitVec 32 := 0#32
  let v165 : BitVec 1 := Scalar.cmpi .eq c8_i32_110 c0_i32_111
  let c1_i32_112 : BitVec 32 := 1#32
  let v166 : BitVec 32 := Scalar.select v165 c1_i32_112 c8_i32_110
  let v167 : BitVec 32 := Scalar.remsi v164 v166
  let c0_i32_114 : BitVec 32 := 0#32
  let v169 : BitVec 1 := Scalar.cmpi .slt v167 c0_i32_114
  let c0_i32_115 : BitVec 32 := 0#32
  let v170 : BitVec 1 := Scalar.cmpi .slt v166 c0_i32_115
  let v171 : BitVec 1 := Scalar.xori v169 v170
  let c0_i32_113 : BitVec 32 := 0#32
  let v168 : BitVec 1 := Scalar.cmpi .ne v167 c0_i32_113
  let v172 : BitVec 1 := Scalar.andi v171 v168
  let v173 : BitVec 32 := Scalar.addi v167 v166
  let v174 : BitVec 32 := Scalar.select v172 v173 v167
  let c1_i32_117 : BitVec 32 := 1#32
  let v175 : BitVec 32 := Scalar.muli v174 c1_i32_117
  let v176 : BitVec 32 := Scalar.addi c0_i32_118 v175
  v176.toNat
def k1_dev12 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_123 : BitVec 32 := 5#32
  let v185 : BitVec 32 := Scalar.addi v2 c5_i32_123
  let c8_i32_124 : BitVec 32 := 8#32
  let c0_i32_125 : BitVec 32 := 0#32
  let v186 : BitVec 1 := Scalar.cmpi .eq c8_i32_124 c0_i32_125
  let c1_i32_126 : BitVec 32 := 1#32
  let v187 : BitVec 32 := Scalar.select v186 c1_i32_126 c8_i32_124
  let v188 : BitVec 32 := Scalar.remsi v185 v187
  let c0_i32_128 : BitVec 32 := 0#32
  let v190 : BitVec 1 := Scalar.cmpi .slt v188 c0_i32_128
  let c0_i32_129 : BitVec 32 := 0#32
  let v191 : BitVec 1 := Scalar.cmpi .slt v187 c0_i32_129
  let v192 : BitVec 1 := Scalar.xori v190 v191
  let c0_i32_127 : BitVec 32 := 0#32
  let v189 : BitVec 1 := Scalar.cmpi .ne v188 c0_i32_127
  let v193 : BitVec 1 := Scalar.andi v192 v189
  let v194 : BitVec 32 := Scalar.addi v188 v187
  let v195 : BitVec 32 := Scalar.select v193 v194 v188
  let c1_i32_131 : BitVec 32 := 1#32
  let v196 : BitVec 32 := Scalar.muli v195 c1_i32_131
  let v197 : BitVec 32 := Scalar.addi c0_i32_132 v196
  v197.toNat
def k1_dev13 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_137 : BitVec 32 := 6#32
  let v206 : BitVec 32 := Scalar.addi v2 c6_i32_137
  let c8_i32_138 : BitVec 32 := 8#32
  let c0_i32_139 : BitVec 32 := 0#32
  let v207 : BitVec 1 := Scalar.cmpi .eq c8_i32_138 c0_i32_139
  let c1_i32_140 : BitVec 32 := 1#32
  let v208 : BitVec 32 := Scalar.select v207 c1_i32_140 c8_i32_138
  let v209 : BitVec 32 := Scalar.remsi v206 v208
  let c0_i32_142 : BitVec 32 := 0#32
  let v211 : BitVec 1 := Scalar.cmpi .slt v209 c0_i32_142
  let c0_i32_143 : BitVec 32 := 0#32
  let v212 : BitVec 1 := Scalar.cmpi .slt v208 c0_i32_143
  let v213 : BitVec 1 := Scalar.xori v211 v212
  let c0_i32_141 : BitVec 32 := 0#32
  let v210 : BitVec 1 := Scalar.cmpi .ne v209 c0_i32_141
  let v214 : BitVec 1 := Scalar.andi v213 v210
  let v215 : BitVec 32 := Scalar.addi v209 v208
  let v216 : BitVec 32 := Scalar.select v214 v215 v209
  let c1_i32_145 : BitVec 32 := 1#32
  let v217 : BitVec 32 := Scalar.muli v216 c1_i32_145
  let v218 : BitVec 32 := Scalar.addi c0_i32_146 v217
  v218.toNat
def k1_dev14 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_151 : BitVec 32 := 7#32
  let v227 : BitVec 32 := Scalar.addi v2 c7_i32_151
  let c8_i32_152 : BitVec 32 := 8#32
  let c0_i32_153 : BitVec 32 := 0#32
  let v228 : BitVec 1 := Scalar.cmpi .eq c8_i32_152 c0_i32_153
  let c1_i32_154 : BitVec 32 := 1#32
  let v229 : BitVec 32 := Scalar.select v228 c1_i32_154 c8_i32_152
  let v230 : BitVec 32 := Scalar.remsi v227 v229
  let c0_i32_156 : BitVec 32 := 0#32
  let v232 : BitVec 1 := Scalar.cmpi .slt v230 c0_i32_156
  let c0_i32_157 : BitVec 32 := 0#32
  let v233 : BitVec 1 := Scalar.cmpi .slt v229 c0_i32_157
  let v234 : BitVec 1 := Scalar.xori v232 v233
  let c0_i32_155 : BitVec 32 := 0#32
  let v231 : BitVec 1 := Scalar.cmpi .ne v230 c0_i32_155
  let v235 : BitVec 1 := Scalar.andi v234 v231
  let v236 : BitVec 32 := Scalar.addi v230 v229
  let v237 : BitVec 32 := Scalar.select v235 v236 v230
  let c1_i32_159 : BitVec 32 := 1#32
  let v238 : BitVec 32 := Scalar.muli v237 c1_i32_159
  let v239 : BitVec 32 := Scalar.addi c0_i32_160 v238
  v239.toNat
def k1_off4 (d0 : Dev nD) (c1_i32_165 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v248 : BitVec 32 := Scalar.addi v2 c1_i32_165
  let c8_i32_166 : BitVec 32 := 8#32
  let c0_i32_167 : BitVec 32 := 0#32
  let v249 : BitVec 1 := Scalar.cmpi .eq c8_i32_166 c0_i32_167
  let c1_i32_168 : BitVec 32 := 1#32
  let v250 : BitVec 32 := Scalar.select v249 c1_i32_168 c8_i32_166
  let v251 : BitVec 32 := Scalar.remsi v248 v250
  let c0_i32_170 : BitVec 32 := 0#32
  let v253 : BitVec 1 := Scalar.cmpi .slt v251 c0_i32_170
  let c0_i32_171 : BitVec 32 := 0#32
  let v254 : BitVec 1 := Scalar.cmpi .slt v250 c0_i32_171
  let v255 : BitVec 1 := Scalar.xori v253 v254
  let c0_i32_169 : BitVec 32 := 0#32
  let v252 : BitVec 1 := Scalar.cmpi .ne v251 c0_i32_169
  let v256 : BitVec 1 := Scalar.andi v255 v252
  let v257 : BitVec 32 := Scalar.addi v251 v250
  let v258 : BitVec 32 := Scalar.select v256 v257 v251
  ![v258.toNat]
def k1_off5 (d0 : Dev nD) (c1_i32_165 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v248 : BitVec 32 := Scalar.addi v2 c1_i32_165
  let c8_i32_166 : BitVec 32 := 8#32
  let c0_i32_167 : BitVec 32 := 0#32
  let v249 : BitVec 1 := Scalar.cmpi .eq c8_i32_166 c0_i32_167
  let c1_i32_168 : BitVec 32 := 1#32
  let v250 : BitVec 32 := Scalar.select v249 c1_i32_168 c8_i32_166
  let v251 : BitVec 32 := Scalar.remsi v248 v250
  let c0_i32_170 : BitVec 32 := 0#32
  let v253 : BitVec 1 := Scalar.cmpi .slt v251 c0_i32_170
  let c0_i32_171 : BitVec 32 := 0#32
  let v254 : BitVec 1 := Scalar.cmpi .slt v250 c0_i32_171
  let v255 : BitVec 1 := Scalar.xori v253 v254
  let c0_i32_169 : BitVec 32 := 0#32
  let v252 : BitVec 1 := Scalar.cmpi .ne v251 c0_i32_169
  let v256 : BitVec 1 := Scalar.andi v255 v252
  let v257 : BitVec 32 := Scalar.addi v251 v250
  let v258 : BitVec 32 := Scalar.select v256 v257 v251
  let c0_i32_175 : BitVec 32 := 0#32
  let c0_i32_176 : BitVec 32 := 0#32
  ![v258.toNat, 0, 0]
abbrev stage1_0 : Fin 1 → Memref sig .tc .vmem S2x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4096x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S4096x8192 : Shape := ⟨2, ![4096, 8192]⟩
abbrev S8192 : Shape := ⟨1, ![8192]⟩
abbrev S_ : Shape := ⟨0, ![]⟩
abbrev S4096 : Shape := ⟨1, ![4096]⟩
abbrev S4096x1 : Shape := ⟨2, ![4096, 1]⟩
abbrev S1x8192 : Shape := ⟨2, ![1, 8192]⟩

abbrev nBuf : Space → Nat
  | .hbm => 47
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192, .f32⟩
  | .hbm, ⟨2, _⟩ => ⟨S8192, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .i32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x8192, .f32⟩
  | .hbm, ⟨34, _⟩ => ⟨S4096x8192, .f32⟩
  | .hbm, ⟨35, _⟩ => ⟨S1x8192, .f32⟩
  | .hbm, ⟨36, _⟩ => ⟨S4096x8192, .f32⟩
  | .hbm, ⟨37, _⟩ => ⟨S4096x8192, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x8192, .f32⟩
  | .hbm, ⟨43, _⟩ => ⟨S4096x8192, .f32⟩
  | .hbm, ⟨44, _⟩ => ⟨S1x8192, .f32⟩
  | .hbm, ⟨45, _⟩ => ⟨S4096x8192, .f32⟩
  | .hbm, ⟨46, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩

abbrev nD : Nat := 1
abbrev τ : Topo := Topo.v7x

variable {F : FTy → Type} [FloatOps F]
-- ==== Proof.Comm.lean ====
/-
  The exchange of partial sums between the eight devices, as a schedule of rounds: which semaphores take part, who pays
  them, how much, and what memory changes hands with each payment.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Transfers
public import Idealize.ShloMosaic.Lib.SparseCore.ProtocolKit
public import Idealize.ShloMosaic.Lib.ValueLayout
public import Idealize.ShloMosaic.Lib.Tactic

@[expose] public section

noncomputable section

namespace Cert.KernelIdeal.Norm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The algebra -/

/-- The rounds of the exchange, beside the counters of local copies. -/
abbrev UB : Type := URounds (GSem nD τ sig) (Dev nD)
abbrev UU : Type := UR sig nD τ × (UB × Counters)

local notation "𝕄" => MT nD τ sig Bool (Elt F) ℕ UU ℕ

abbrev EP : Emb (UR sig nD τ) (MT nD τ sig Bool (Elt F) ℕ UU ℕ) := embL
def EB : Emb UB (MT nD τ sig Bool (Elt F) ℕ UU ℕ) :=
  ((Emb.inl : Emb UB (UB × Counters)).trans (Emb.inr : Emb (UB × Counters) UU)).trans
    (uEmb (nD := nD) (sig := sig) (Ix := Bool) (Val := Elt F) (Name := ℕ) (U := UU) (Lvl := ℕ)).toEmb

instance EB_landsIn : (EB (F := F) : Emb UB (MT nD τ sig Bool (Elt F) ℕ UU ℕ)).LandsIn (upEmb : UEmb _ (MT nD τ sig Bool (Elt F) ℕ UU ℕ)) := by
  unfold EB; infer_instance

/-! ## Devices, slots, semaphores -/

/-- The device `i + 1` places after `c` on the ring of eight. -/
def pr (c : Dev nD) (i : Fin 7) : Dev nD := ⟨(c.val + (i.val + 1)) % 8, Nat.mod_lt _ (by decide)⟩

theorem pr_ne (c : Dev nD) (i : Fin 7) : pr c i ≠ c := by revert c i; decide
theorem pr_inj (c : Dev nD) : Function.Injective (pr c) := by revert c; decide
/-- The way back: from `pr c i` it is `pr · (6 - i)`. -/
def back (i : Fin 7) : Fin 7 := ⟨6 - i.val, by omega⟩
theorem pr_back (c : Dev nD) (i : Fin 7) : pr (pr c i) (back i) = c := by revert c i; decide

theorem image_pr (c : Dev nD) : (Finset.univ.image (pr c)) = Finset.univ.erase c := by revert c; decide

/-- A family over the devices other than `c`, counted by their distance from `c`. -/
theorem bigSep_others {M : Type} [URA M] (c : Dev nD) (Φ : Dev nD → sProp M) :
    bigSep (Finset.univ.erase c) Φ = bigSep Finset.univ fun i : Fin 7 => Φ (pr c i) := by
  rw [← image_pr, bigSep_image_of_injOn ((pr_inj c).injOn)]

theorem bigSep_dev {M : Type} [URA M] (c : Dev nD) (Φ : Dev nD → sProp M) :
    bigSep Finset.univ Φ = iprop(Φ c ∗ bigSep Finset.univ fun i : Fin 7 => Φ (pr c i)) := by
  rw [bigSep_univ_at Φ c, bigSep_others]

theorem slot_inb (j : Dev nD) : ∀ a, (![j.val, 0, 0] : Fin 3 → ℕ) a + S1x2x4096.size a ≤ S8x2x4096.size a := by
  revert j; decide

/-- The rectangle of slot `j` in the gathered buffer. -/
abbrev slotRect (j : Dev nD) : Rect S8x2x4096 := Rect.unit (s := S8x2x4096) ![j.val, 0, 0] S1x2x4096.size (slot_inb j)

/-- Slot `j` of the gathered buffer, as the two rows of sums it holds. -/
abbrev slot (j : Dev nD) : Memref sig .tc .vmem S2x4096 .f32 :=
  ((Memref.whole cc1_scratch0).slice (slotRect j) (fun _ => rfl)).squeeze S2x4096 squeezes_S1x2x4096_S2x4096

abbrev recvSem (s : Dev nD) : DmaSem sig := ⟨19 + s.val, by have h : s.val < 8 := s.isLt; show 19 + s.val < 35; omega⟩
abbrev sendSem (i : Fin 7) : DmaSem sig := ⟨12 + i.val, by have h : i.val < 7 := i.isLt; show 12 + i.val < 35; omega⟩

abbrev barCell (c : Dev nD) : GSem nD τ sig := ((c : Thread nD τ), .reg barrier0)
abbrev recvCell (c s : Dev nD) : GSem nD τ sig := ((c : Thread nD τ), .dma (recvSem s))
abbrev sendCell (c : Dev nD) (i : Fin 7) : GSem nD τ sig := ((c : Thread nD τ), .dma (sendSem i))

/-- What one transfer of a slot credits its semaphores with. -/
abbrev N : ℕ := (slot 0).view.dmaCredit
theorem N_pos : 0 < N := View.dmaCredit_pos _ (by decide)
theorem credit_slot (j : Dev nD) : (slot j).view.dmaCredit = N := rfl

/-- Contents of the gathered buffer: slot `j` holds device `j`'s sums. The same on every device. -/
abbrev Gathered (F : FTy → Type) : Type := (cc1_scratch0 : Ref sig .tc).ty.Contents (Elt F)

def gath (P : Dev nD → Vec F S2x4096 .f32) : Gathered F := fun i => P (i 0) (ValueIdx.ix2 (i 1) (i 2))

/-- Device `c`'s slot `j`, at share `q`. -/
abbrev slotPts (c j : Dev nD) (q : PosShare TreeShare) (f : Gathered F) : sProp 𝕄 :=
  (slot j).view.loc (c : Thread nD τ) ↦[(slot j).view.set]{q} f

/-- The share of the own slot that rides with transfer `i`. -/
abbrev tokShare (i : Fin 7) : PosShare TreeShare := Transfers.shareTok fullShare 7 i
abbrev keepShare : PosShare TreeShare := Transfers.shareDrop fullShare 7

/-! ## The schedule -/

/-- Paid by `d` to `c`'s barrier: `d`'s slot for `c`'s sums, and that `d`'s receive semaphore for `c` is in use. -/
def barPay (c d : Dev nD) : sProp 𝕄 := iprop((∃ f, slotPts d c fullShare f) ∗ reached EB (recvCell d c) 0)

def dutiesOf (c : Dev nD) : SemLoc sig → Finset (Dev nD)
  | .reg _ => Finset.univ.erase c
  | .dma _ => {0}
def amountOf : SemLoc sig → ℕ
  | .reg _ => 1
  | .dma _ => N
/-- What comes with a payment: to a barrier a slot to write to, to a receive semaphore the slot written, to a send
    semaphore the share of the own slot that was lent out. -/
def payOf (G : Gathered F) (c : Dev nD) (d : Dev nD) : SemLoc sig → sProp 𝕄
  | .reg _ => barPay c d
  | .dma k => if 19 ≤ k.val then slotPts c ⟨(k.val - 19) % 8, Nat.mod_lt _ (by decide)⟩ fullShare G
      else slotPts c c (tokShare ⟨(k.val - 12) % 7, Nat.mod_lt _ (by decide)⟩) G

def rd (G : Gathered F) : Rounds.Schedule (GSem nD τ sig) (Dev nD) 𝕄 where
  duties g r := if r = 0 then dutiesOf g.1.1 g.2 else ∅
  unitless _ := False
  amount g _ _ := amountOf g.2
  payload g _ d := payOf G g.1.1 d g.2
  amount_pos g _ _ _ := by
    rcases g with ⟨t, sm⟩
    cases sm
    · exact Nat.one_pos
    · exact N_pos

instance rd_payload_storable (G : Gathered F) (g : GSem nD τ sig) (r : ℕ) (d : Dev nD) :
    BI.Storable (upEmb : UEmb _ 𝕄) ((rd G).payload g r d) := by
  obtain ⟨t, sm⟩ := g
  cases sm with
  | reg s =>
    show BI.Storable upEmb (barPay t.1 d)
    unfold barPay; infer_instance
  | dma k =>
    show BI.Storable upEmb (if 19 ≤ k.val then slotPts t.1 ⟨(k.val - 19) % 8, Nat.mod_lt _ (by decide)⟩ fullShare G
      else slotPts t.1 t.1 (tokShare ⟨(k.val - 12) % 7, Nat.mod_lt _ (by decide)⟩) G)
    split <;> infer_instance

section Tables

variable (G : Gathered F) (c s d : Dev nD) (i : Fin 7)

theorem duties_bar : (rd G).duties (barCell c) 0 = Finset.univ.erase c := rfl
theorem duties_dma (k : DmaSem sig) : (rd G).duties ((c : Thread nD τ), .dma k) 0 = {0} := rfl
theorem duties_later (g : GSem nD τ sig) : ∀ r, 1 ≤ r → (rd G).duties g r = ∅ := fun r hr => if_neg (by omega)

theorem expect_bar : (rd G).expect (barCell c) 0 = 7 := by
  unfold Schedule.expect Schedule.amountOf; rw [duties_bar, show (∑ d ∈ Finset.univ.erase c, (rd G).amount (barCell c) 0 d) = ∑ _d ∈ Finset.univ.erase c, 1 from rfl,
    Finset.sum_const, Finset.card_erase_of_mem (Finset.mem_univ c)]; rfl
theorem expect_dma (k : DmaSem sig) : (rd G).expect ((c : Thread nD τ), .dma k) 0 = N := by
  unfold Schedule.expect Schedule.amountOf; rw [duties_dma, Finset.sum_singleton]; rfl

theorem payload_recv : (rd G).payload (recvCell c s) 0 d = slotPts c s fullShare G := by
  show (if 19 ≤ 19 + s.val then slotPts c ⟨(19 + s.val - 19) % 8, _⟩ fullShare G else _) = _
  rw [if_pos (Nat.le_add_right _ _)]
  have e : (⟨(19 + s.val - 19) % 8, Nat.mod_lt _ (by decide)⟩ : Dev nD) = s := Fin.ext (by
    have h : s.val < 8 := s.isLt; show (19 + s.val - 19) % 8 = s.val; omega)
  rw [e]
theorem payload_send : (rd G).payload (sendCell c i) 0 d = slotPts c c (tokShare i) G := by
  show (if 19 ≤ 12 + i.val then _ else slotPts c c (tokShare ⟨(12 + i.val - 12) % 7, _⟩) G) = _
  rw [if_neg (by have := i.isLt; omega)]
  have e : (⟨(12 + i.val - 12) % 7, Nat.mod_lt _ (by decide)⟩ : Fin 7) = i := Fin.ext (by
    have := i.isLt; show (12 + i.val - 12) % 7 = i.val; omega)
  rw [e]
theorem payload_bar : (rd G).payload (barCell c) 0 d = barPay c d := rfl

theorem rest_bar : bigSep ((rd G).duties (barCell c) 0 \ ∅) (fun u => (rd G).payload (barCell c) 0 u)
    = bigSep Finset.univ fun i : Fin 7 => (barPay c (pr c i) : sProp 𝕄) := by
  rw [Finset.sdiff_empty, duties_bar, bigSep_others]; rfl
theorem rest_recv : bigSep ((rd G).duties (recvCell c s) 0 \ ∅) (fun u => (rd G).payload (recvCell c s) 0 u) = slotPts c s fullShare G := by
  rw [Finset.sdiff_empty, duties_dma, bigSep_singleton, payload_recv]
theorem rest_send : bigSep ((rd G).duties (sendCell c i) 0 \ ∅) (fun u => (rd G).payload (sendCell c i) 0 u) = slotPts c c (tokShare i) G := by
  rw [Finset.sdiff_empty, duties_dma, bigSep_singleton, payload_send]

end Tables

/-! ## What each device owes, and the levels -/

/-- The receive credits still to be sent from transfer `n` on. -/
def owedSend (c : Dev nD) (n : ℕ) : CellTallies nD τ sig Bool :=
  ∑ i ∈ SparseCore.ProtocolKit.finFrom 7 n, tallyAt (recvCell (pr c i) c) true N
/-- The barrier signals still to be given from signal `n` on. -/
def owedBar (c : Dev nD) (n : ℕ) : CellTallies nD τ sig Bool :=
  ∑ i ∈ SparseCore.ProtocolKit.finFrom 7 n, tallyAt (barCell (pr c i)) true 1
/-- What device `c` owes from the start: seven transfers and seven signals. -/
def O₀ (c : Dev nD) : CellTallies nD τ sig Bool := owedSend c 0 + owedBar c 0

def L (g : GSem nD τ sig) : Finset Bool := if g.1.2 = .tc then Finset.univ else ∅
def lvOf : SemLoc sig → ℕ
  | .reg _ => 1
  | .dma k => if 19 ≤ k.val then 2 else 0
/-- Every wait of a local copy is at the bottom; the barrier is above it, the receive semaphores above the barrier. -/
def lv (g : GSem nD τ sig) (b : Bool) : ℕ := if b then lvOf g.2 else 0

theorem L_of_ne (g : GSem nD τ sig) (h : g.1.2 ≠ .tc) : L g = ∅ := if_neg h
theorem L_tc (c : Dev nD) (sm : SemLoc sig) : L ((c : Thread nD τ), sm) = Finset.univ := if_pos rfl
theorem mem_L_tc (c : Dev nD) (sm : SemLoc sig) (b : Bool) : b ∈ L ((c : Thread nD τ), sm) := by rw [L_tc]; exact Finset.mem_univ b

theorem tally_sum_apply {n : ℕ} (S : Finset (Fin n)) (f : Fin n → GSem nD τ sig) (k : ℕ) (g : GSem nD τ sig) (b : Bool) :
    (∑ i ∈ S, (tallyAt (f i) true k : CellTallies nD τ sig Bool)) g b = ∑ i ∈ S, if g = f i ∧ b = true then k else 0 := by
  rw [Finset.sum_apply, Finsupp.finset_sum_apply]
  exact Finset.sum_congr rfl fun i _ => by rw [tallyAt_apply]

theorem tally_sum_pos {n : ℕ} {S : Finset (Fin n)} {f : Fin n → GSem nD τ sig} {k : ℕ} {g : GSem nD τ sig} {b : Bool}
    (h : 0 < (∑ i ∈ S, (tallyAt (f i) true k : CellTallies nD τ sig Bool)) g b) : ∃ i, g = f i ∧ b = true := by
  rw [tally_sum_apply] at h
  obtain ⟨i, -, hi⟩ := Finset.exists_ne_zero_of_sum_ne_zero h.ne'
  by_contra hn
  exact hi (if_neg fun hh => hn ⟨i, hh⟩)

theorem owedSend_pos {c : Dev nD} {n : ℕ} {g : GSem nD τ sig} {b : Bool} (h : 0 < owedSend c n g b) :
    ∃ i, g = recvCell (pr c i) c ∧ b = true := tally_sum_pos h
theorem O₀_pos {c : Dev nD} {g : GSem nD τ sig} {b : Bool} (h : 0 < O₀ c g b) :
    b = true ∧ ((∃ i, g = recvCell (pr c i) c) ∨ ∃ i, g = barCell (pr c i)) := by
  unfold O₀ at h
  rw [Pi.add_apply, Finsupp.add_apply] at h
  rcases Nat.add_pos_iff_pos_or_pos.mp h with h | h
  · obtain ⟨i, hg, hb⟩ := owedSend_pos h; exact ⟨hb, .inl ⟨i, hg⟩⟩
  · obtain ⟨i, hg, hb⟩ := tally_sum_pos h; exact ⟨hb, .inr ⟨i, hg⟩⟩

theorem lv_recv (c s : Dev nD) : lv (recvCell c s) true = 2 := if_pos (Nat.le_add_right _ _)
theorem lv_bar (c : Dev nD) : lv (barCell c) true = 1 := rfl

theorem O₀_cut {c : Dev nD} {g : GSem nD τ sig} {b : Bool} (h : 0 < O₀ c g b) : b ∈ L g ∧ 0 < lv g b := by
  obtain ⟨rfl, ⟨i, rfl⟩ | ⟨i, rfl⟩⟩ := O₀_pos h
  · exact ⟨mem_L_tc _ _ _, by rw [lv_recv]; decide⟩
  · exact ⟨mem_L_tc _ _ _, by rw [lv_bar]; decide⟩

theorem mayWait_bar (c : Dev nD) :
    (levAts L lv : sProp 𝕄) ⊢ MayWait (c : Thread nD τ) (.reg barrier0) true (owedSend c 0) :=
  MayOwe.of_cut (L := L) (lev := lv) 1 (fun p hp => by rw [Finset.mem_singleton.mp hp]; exact mem_L_tc _ _ _)
    (fun g b hg => by obtain ⟨i, rfl, rfl⟩ := owedSend_pos hg; exact mem_L_tc _ _ _)
    (fun p hp => by rw [Finset.mem_singleton.mp hp]; exact le_of_eq (lv_bar c))
    (fun g b hg => by obtain ⟨i, rfl, rfl⟩ := owedSend_pos hg; rw [lv_recv]; decide)

theorem owedBar_succ (c : Dev nD) (n : ℕ) (hn : n < 7) (O : CellTallies nD τ sig Bool) :
    O + owedBar c n = O + owedBar c (n + 1) + tallyAt (barCell (pr c ⟨n, hn⟩)) true 1 :=
  SparseCore.ProtocolKit.add_sum_finFrom_succ O hn _
theorem owedSend_succ (c : Dev nD) (n : ℕ) (hn : n < 7) :
    owedSend c n = owedSend c (n + 1) + tallyAt (recvCell (pr c ⟨n, hn⟩) c) true N :=
  SparseCore.ProtocolKit.sum_finFrom_succ hn _
theorem owedBar_end (c : Dev nD) : owedBar c 7 = 0 := SparseCore.ProtocolKit.sum_finFrom_self _
theorem owedSend_end (c : Dev nD) : owedSend c 7 = 0 := SparseCore.ProtocolKit.sum_finFrom_self _

end Cert.KernelIdeal.Norm

end
-- ==== Proof.Steps.lean ====
/-
  One step of the exchange each: a barrier signal, a transfer of the own slot, a wait on one of the seven receive or send
  semaphores. Each is stated once, for the `n`-th of seven, with the printed operands named by equations.
-/
module

public import proofs.«01_k».proof.Proof.Comm

@[expose] public section

noncomputable section

namespace Cert.KernelIdeal.Norm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Cert.KernelIdeal.Gen

variable {F : FTy → Type} [FloatOps F]

local notation "𝕄" => MT nD τ sig Bool (Elt F) ℕ UU ℕ

/-! ## The cells, and the records every device may consult -/

def barEmb : Dev nD ↪ GSem nD τ sig := ⟨fun c => barCell c, fun _ _ h => congrArg (fun g : GSem nD τ sig => g.1.1) h⟩

/-- The semaphores of a device's own that take part: seven of the eight receive semaphores, and the seven send ones. -/
def ownSem (c : Dev nD) : Bool × Fin 7 → DmaSem sig
  | (true, i) => recvSem (pr c i)
  | (false, i) => sendSem i

theorem ownSem_inj (c : Dev nD) : Function.Injective (ownSem c) := by revert c; decide +kernel

def scEmb : Dev nD × (Bool × Fin 7) ↪ GSem nD τ sig :=
  ⟨fun x => ((x.1 : Thread nD τ), .dma (ownSem x.1 x.2)), fun x y h => by
    obtain ⟨c, a⟩ := x
    obtain ⟨d, b⟩ := y
    obtain rfl : c = d := congrArg (fun g : GSem nD τ sig => g.1.1) h
    have h2 : (SemLoc.dma (ownSem c a) : SemLoc sig) = .dma (ownSem c b) := congrArg Prod.snd h
    exact Prod.ext rfl (ownSem_inj c (SemLoc.dma.inj h2))⟩

abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem recv_mem (c : Dev nD) (i : Fin 7) : recvCell c (pr c i) ∈ (barCells ∪ scCells : Finset (GSem nD τ sig)) :=
  Finset.mem_union_right _ (Finset.mem_map_of_mem scEmb (Finset.mem_univ (c, (true, i))))
theorem send_mem (c : Dev nD) (i : Fin 7) : sendCell c i ∈ (barCells ∪ scCells : Finset (GSem nD τ sig)) :=
  Finset.mem_union_right _ (Finset.mem_map_of_mem scEmb (Finset.mem_univ (c, (false, i))))
theorem peer_recv_mem (c : Dev nD) (i : Fin 7) : recvCell (pr c i) c ∈ (barCells ∪ scCells : Finset (GSem nD τ sig)) := by
  have h := recv_mem (pr c i) (back i); rwa [pr_back] at h

/-- Every invariant, under one map of names, and that round 0 of every barrier is reached. -/
def records (G : Gathered F) (κ : GSem nD τ sig → ℕ) : sProp 𝕄 :=
  iprop((bigSep (barCells ∪ scCells) fun g => cellInv EB (rd G) (κ g) g) ∗ bigSep barCells fun g => reached EB g 0)

instance records_persistent (G : Gathered F) (κ : GSem nD τ sig → ℕ) : BI.Persistent (records G κ) := by unfold records; infer_instance

theorem records_inv (G : Gathered F) (κ : GSem nD τ sig → ℕ) {g : GSem nD τ sig} (hg : g ∈ (barCells ∪ scCells : Finset (GSem nD τ sig))) :
    records G κ ⊢ (cellInv EB (rd G) (κ g) g : sProp 𝕄) := by
  unfold records
  iintro ⟨#H, -⟩
  have h : (bigSep (barCells ∪ scCells) fun g => (cellInv EB (rd G) (κ g) g : sProp 𝕄)) ⊢ cellInv EB (rd G) (κ g) g := bigSep_elim hg
  iapply h
  iexact H

theorem records_reached (G : Gathered F) (κ : GSem nD τ sig → ℕ) (c : Dev nD) : records G κ ⊢ (reached EB (barCell c) 0 : sProp 𝕄) := by
  unfold records
  iintro ⟨-, #H⟩
  have h : (bigSep barCells fun g => (reached EB g 0 : sProp 𝕄)) ⊢ reached EB (barCell c) 0 :=
    bigSep_elim (Finset.mem_map_of_mem barEmb (Finset.mem_univ c))
  iapply h
  iexact H

abbrev 𝒱₀ : Variants := Variants.none

/-! ## The signals -/

/-- What signal `i` spends: the right to pay, and the slot handed over with word of the receive semaphore. -/
def sigPart (c : Dev nD) (i : Fin 7) : sProp 𝕄 :=
  iprop(dutyTok EB (barCell (pr c i)) 0 c ∗ barPay (pr c i) c)

/-- Before signal `n`. -/
def sigState (c : Dev nD) (W : Waits sig Bool) (n : ℕ) : sProp 𝕄 :=
  iprop(owes (c : Thread nD τ) (owedSend c 0 + owedBar c n) W ∗ bigSep (finFrom 7 n) (sigPart c))

theorem signal_step (G : Gathered F) (κ : GSem nD τ sig → ℕ) (c : Dev nD) (W : Waits sig Bool) (n : ℕ) (hn : n < 7) {p : Dev nD} (hp : p = pr c ⟨n, hn⟩)
    {k : PUnit → Prog (TpuEff nD τ sig (Elt F) Λ₀ .tc) PUnit} {Q : PUnit → sProp 𝕄} :
    records G κ
      ⊢ iprop(sigState c W n -∗ (sigState c W (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (p, .tc) barrier0 ((1#32 : BitVec 32).toInt)) k) Q) := by
  subst hp
  unfold sigState
  rw [bigSep_finFrom_succ hn, show sigPart c ⟨n, hn⟩ = (iprop(dutyTok EB (barCell (pr c ⟨n, hn⟩)) 0 c ∗ barPay (pr c ⟨n, hn⟩) c) : sProp 𝕄) from rfl]
  iintro #HR ⟨HO, ⟨Ht, Hp⟩, Hrest⟩ Hk
  iapply (Rounds.wp_signal 𝒱₀ EB (rd G) (c : Thread nD τ) none (dst := (pr c ⟨n, hn⟩ : Thread nD τ)) (sem := barrier0) (r := 0) (d := c)
      (κ := κ (barCell (pr c ⟨n, hn⟩))) (k' := 1)
      (by rw [duties_bar]; exact Finset.mem_erase.mpr ⟨(pr_ne c _).symm, Finset.mem_univ _⟩) rfl true (owedSend c 0 + owedBar c (n + 1))
      (owedBar_succ c n hn (owedSend c 0))) $$ [HO Ht Hp]
  · isplitr; · iapply (records_inv G κ (bar_mem _)); iexact HR
    isplitl [HO]; · iexact HO
    isplitl [Ht]; · iexact Ht
    isplitl [Hp]; · rw [payload_bar]; iexact Hp
    iapply (records_reached G κ); iexact HR
  iintro HO
  iapply Hk
  isplitl [HO] <;> iassumption

/-! ## The barrier -/

theorem barrier_step (G : Gathered F) (κ : GSem nD τ sig → ℕ) (c : Dev nD) (W : Waits sig Bool)
    {k : PUnit → Prog (TpuEff nD τ sig (Elt F) Λ₀ .tc) PUnit} {Q : PUnit → sProp 𝕄} :
    iprop(records G κ ∗ levAts L lv ∗ owes (c : Thread nD τ) (owedSend c 0) W ∗ cred (tallyAt (barCell c) true 7) ∗ atPos EB (barCell c) 0 ∅ 0)
      ⊢ iprop(((∃ W, owes (c : Thread nD τ) (owedSend c 0) W) ∗ atPos EB (barCell c) 1 ∅ 0 ∗ (bigSep Finset.univ fun i : Fin 7 => barPay c (pr c i))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barrier0 ((7#32 : BitVec 32).toInt)) k) Q) := by
  iintro ⟨#HR, #Hlev, HO, Hc, Hat⟩ Hk
  iapply (Rounds.wp_wait_rest_token 𝒱₀ EB (rd G) (c : Thread nD τ) none (κ := κ (barCell c)) (k' := 7)
      (wpE_semWait_eq 𝒱₀ (c : Thread nD τ) none Set.univ) (Set.mem_univ _) true (O := owedSend c 0) (W := W) (R := 0) (m := 0) (T := ∅)
      ((Nat.zero_add _).trans (expect_bar G c).symm)) $$ [Hc HO Hat]
  · isplitr; · iapply (records_inv G κ (bar_mem _)); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexists _; iexact HO
  isplitl [Hat]; · iexact Hat
  iapply (Entails.of_eq (rest_bar G c)); iexact Hpay

/-! ## The transfers -/

/-- Writing through a view what it reads of some contents leaves those contents on the view's elements. -/
theorem write_read_on {κ : Kind} {sp : Space} {s : Shape} {e : EltTy} (v : View sig κ sp s e) (f g : v.ty.Contents (Elt F)) :
    ∀ i ∈ v.set, v.write (Elt F) f (v.read (Elt F) g) Finset.univ i = g i := fun i hi => by
  obtain ⟨y, -, rfl⟩ := Finset.mem_map.mp hi
  rw [View.write_emb_of_mem _ _ (Finset.mem_univ _)]
  simp [View.read]

/-- What transfer `i` spends. -/
def sendPart (G : Gathered F) (c : Dev nD) (i : Fin 7) : sProp 𝕄 :=
  iprop(dutyTok EB (sendCell c i) 0 0 ∗ reached EB (sendCell c i) 0 ∗ dutyTok EB (recvCell (pr c i) c) 0 0
    ∗ slotPts c c (tokShare i) G ∗ barPay c (pr c i))

/-- Before transfer `n`: the transfers made have left the credit of their send semaphores. -/
def sendState (G : Gathered F) (c : Dev nD) (W : Waits sig Bool) (n : ℕ) : sProp 𝕄 :=
  iprop(owes (c : Thread nD τ) (owedSend c n) W ∗ bigSep (finFrom 7 n) (sendPart G c)
    ∗ bigSep (finUpTo 7 n) fun i => cred (tallyAt (sendCell c i) true N))

theorem send_step (G : Gathered F) (κ : GSem nD τ sig → ℕ) (c : Dev nD) (W : Waits sig Bool) (n : ℕ) (hn : n < 7) {p : Dev nD} (hp : p = pr c ⟨n, hn⟩)
    {M : Memref sig .tc .vmem S2x4096 .f32} (hM : M = slot c) {sS sR : DmaSem sig} (hS : sS = sendSem ⟨n, hn⟩) (hR : sR = recvSem c)
    {hsc : M.view.ref.isScScratch = false} {hsrc : M.view.WordExact} {hdst : M.view.WordExact}
    {hsem : DmaTarget.Typed .vmem (.dma sR) (.remote (Dev.tc p : Thread nD τ) M (.dma sS) hsc)}
    {k : PUnit → Prog (TpuEff nD τ sig (Elt F) Λ₀ .tc) PUnit} {Q : PUnit → sProp 𝕄} :
    records G κ
      ⊢ iprop(sendState G c W n -∗ (sendState G c W (n + 1) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma M (.remote (Dev.tc p) M (.dma sS) hsc) (.dma sR) hsrc hdst hsem) k) Q) := by
  subst hp hM hS hR
  unfold sendState
  rw [bigSep_finFrom_succ hn, bigSep_finUpTo_succ hn]
  unfold sendPart barPay
  iintro #HR ⟨HO, ⟨⟨HtS, #HrS, HtR, Hsrc, ⟨%fd, Hdst⟩, #HrR⟩, Hrest⟩, Hcr⟩ Hk
  iapply (Rounds.wp_send_pointsTo 𝒱₀ EB (rd G) (c : Thread nD τ) none (c' := (pr c ⟨n, hn⟩ : Thread nD τ)) (src := slot c) (dst := slot c)
      (sS := .dma (sendSem ⟨n, hn⟩)) (sem := .dma (recvSem c)) (q := tokShare ⟨n, hn⟩) (fs := G) (κ₁ := κ (sendCell c ⟨n, hn⟩))
      (κ₂ := κ (recvCell (pr c ⟨n, hn⟩) c)) (r₁ := 0) (r₂ := 0) (d₁ := 0) (d₂ := 0) (fd := fd)
      (by rw [duties_dma]; exact Finset.mem_singleton_self _) (by rw [duties_dma]; exact Finset.mem_singleton_self _)
      true true N rfl rfl rfl (owedSend c (n + 1)) (owedSend_succ c n hn) (W := W)
      (by rw [payload_send])
      (by rw [payload_recv]; exact Entails.of_eq (pointsTo_congr (write_read_on (slot c).view fd G)))) $$ [Hsrc Hdst HO HtS HtR]
  · isplitr; · iapply (records_inv G κ (send_mem _ _)); iexact HR
    isplitr; · iapply (records_inv G κ (peer_recv_mem _ _)); iexact HR
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨HcS, HO⟩
  iapply Hk
  isplitl [HO]; · iexact HO
  isplitl [Hrest]; · iexact Hrest
  isplitl [HcS] <;> iassumption

/-! ## The waits -/

/-- Before wait `n` of seven on the semaphores `sm`, each of which brings `Pay`. -/
def waitState (sm : Fin 7 → DmaSem sig) (Pay : Fin 7 → sProp 𝕄) (c : Dev nD) (n : ℕ) : sProp 𝕄 :=
  iprop((∃ W, owes (c : Thread nD τ) (0 : CellTallies nD τ sig Bool) W)
    ∗ bigSep (finFrom 7 n) (fun i => iprop(cred (tallyAt ((c : Thread nD τ), .dma (sm i)) true N) ∗ atPos EB ((c : Thread nD τ), .dma (sm i)) 0 ∅ 0))
    ∗ bigSep (finUpTo 7 n) (fun i => iprop(atPos EB ((c : Thread nD τ), .dma (sm i)) 1 ∅ 0 ∗ Pay i)))

theorem wait_step (G : Gathered F) (κ : GSem nD τ sig → ℕ) (c : Dev nD) {sm : Fin 7 → DmaSem sig} {Pay : Fin 7 → sProp 𝕄}
    (hmem : ∀ i, ((c : Thread nD τ), .dma (sm i)) ∈ (barCells ∪ scCells : Finset (GSem nD τ sig)))
    (hpay : ∀ i, bigSep ((rd G).duties ((c : Thread nD τ), .dma (sm i)) 0 \ ∅) (fun u => (rd G).payload ((c : Thread nD τ), .dma (sm i)) 0 u) = Pay i)
    (n : ℕ) (hn : n < 7) {s : DmaSem sig} (hs : s = sm ⟨n, hn⟩)
    {M : Memref sig .tc .vmem S2x4096 .f32} {j : Fin 8} (hM : M = slot j) {hsrc : M.view.WordExact} {hdst : M.view.WordExact}
    {k : PUnit → Prog (TpuEff nD τ sig (Elt F) Λ₀ .tc) PUnit} {Q : PUnit → sProp 𝕄} :
    records G κ
      ⊢ iprop(waitState sm Pay c n -∗ (waitState sm Pay c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s M M hsrc hdst) k) Q) := by
  subst hs hM
  unfold waitState
  rw [bigSep_finFrom_succ hn, bigSep_finUpTo_succ hn]
  iintro #HR ⟨⟨%W, HO⟩, ⟨⟨Hc, Hat⟩, Hrest⟩, Hdone⟩ Hk
  iapply (Rounds.wp_wait_rest_token 𝒱₀ EB (rd G) (c : Thread nD τ) none (κ := κ ((c : Thread nD τ), .dma (sm ⟨n, hn⟩))) (k' := (slot j).view.dmaCredit)
      (wpE_waitDma2_eq 𝒱₀ (c : Thread nD τ) none Set.univ) (Set.mem_univ _) true (O := 0) (W := W) (R := 0) (m := 0) (T := ∅)
      (by rw [credit_slot]; exact (Nat.zero_add _).trans (expect_dma G c _).symm)) $$ [Hc HO Hat]
  · isplitr; · iapply (records_inv G κ (hmem _)); iexact HR
    isplitl [Hc]; · rw [credit_slot]; iexact Hc
    isplitl [HO]; · iexact HO
    isplitr; · rw [MayWait_zero]; iempintro
    iexact Hat
  iintro ⟨HO, Hat, -, Hpay⟩
  iapply Hk
  isplitl [HO]; · iexists _; iexact HO
  isplitl [Hrest]; · iexact Hrest
  isplitl [Hat Hpay]
  · isplitl [Hat]; · iexact Hat
    iapply (Entails.of_eq (hpay ⟨n, hn⟩)); iexact Hpay
  iexact Hdone

end Cert.KernelIdeal.Norm

end
-- ==== Proof.Normalize.lean ====
/-
  The third call's body on one device: a block of rows less their means, times their reciprocal deviations, times the
  scales, plus the shifts.
-/
module

public import proofs.«01_k».proof.Proof.Steps
public import Idealize.ShloMosaic.Lib.Exec
public import Idealize.ShloMosaic.Lib.VecWindow

@[expose] public section

noncomputable section

namespace Cert.KernelIdeal.Norm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Cert.KernelIdeal.Gen

variable {F : FTy → Type} [FloatOps F]

local notation "𝕄" => MT nD τ sig Bool (Elt F) ℕ UU ℕ

/-- Column `j` of a block's means and reciprocal deviations. -/
def statCol (R : Vec F S1024x2 .f32) (j : Fin 2) : Vec F S1024x1 .f32 := fun i => R (ValueIdx.ix2 (i 0) j)

/-- A block of rows, normalised, scaled and shifted. -/
def scaled (X : Vec F S1024x1024 .f32) (R : Vec F S1024x2 .f32) (g b : Vec F S1024 .f32) : Vec F S1024x1024 .f32 :=
  k2_pay1 X (statCol R 0) (statCol R 1) g b

/-- A load of a column. -/
theorem readAt_statCol (v : View sig .tc .vmem S1024x2 .f32) (f : v.ty.Contents (Elt F)) {R : Vec F S1024x2 .f32} (h : v.read (Elt F) f = R) (j : Fin 2)
    (inb : ∀ a : Fin S1024x2.rank, (![0, j.val] : Fin 2 → ℕ) a + S1024x1.size a ≤ S1024x2.size a) :
    v.readAt (Elt F) (Rect.unit (s := S1024x2) ![0, j.val] S1024x1.size inb).toLoadRect f = statCol R j := by
  funext y
  rw [View.readAt_apply, h]
  refine congrArg R (funext fun a => Fin.ext ?_)
  have h1 : (y 1).val < 1 := (y 1).isLt
  refine Eq.trans (b := (![0, j.val] : Fin 2 → ℕ) a + 1 * (y a).val) rfl ?_
  revert a
  refine Fin.forall_fin_two.2 ⟨?_, ?_⟩
  · show 0 + 1 * (y 0).val = (y 0).val
    omega
  · show j.val + 1 * (y 1).val = j.val
    omega

theorem normalize (c : Dev nD) (i : grid2.Coords) (M1 : Memref sig .tc .vmem S1024x1024 .f32) (h1 : M1.IsWhole) (M2 : Memref sig .tc .vmem S1024x2 .f32) (h2 : M2.IsWhole)
    (M3 : Memref sig .tc .vmem S1024 .f32) (h3 : M3.IsWhole) (M4 : Memref sig .tc .vmem S1024 .f32) (h4 : M4.IsWhole) (M5 : Memref sig .tc .vmem S1024x1024 .f32) (h5 : M5.IsWhole)
    (X : Vec F S1024x1024 .f32) (R : Vec F S1024x2 .f32) (g b : Vec F S1024 .f32) (d : Vec F S1024x1024 .f32) (Q : PUnit → sProp 𝕄) :
    iprop(owns (c : Thread nD τ) M1 fullShare X ∗ owns (c : Thread nD τ) M2 fullShare R ∗ owns (c : Thread nD τ) M3 fullShare g
        ∗ owns (c : Thread nD τ) M4 fullShare b ∗ owns (c : Thread nD τ) M5 fullShare d)
      ⊢ iprop((owns (c : Thread nD τ) M1 fullShare X ∗ owns (c : Thread nD τ) M2 fullShare R ∗ owns (c : Thread nD τ) M3 fullShare g
        ∗ owns (c : Thread nD τ) M4 fullShare b ∗ owns (c : Thread nD τ) M5 fullShare (scaled X R g b) -∗ Q ⟨⟩)
        -∗ wp frame (wpE (defs₀ (F := F)) 𝒱₀ (c : Thread nD τ) none) Set.univ (cc2_body i M1 h1 M2 h2 M3 h3 M4 h4 M5 h5) Q) := by
  rw [cc2_body_eq_skeleton]
  unfold cc2_body_skel owns
  iintro ⟨⟨%f1, %e1, H1⟩, ⟨%f2, %e2, H2⟩, ⟨%f3, %e3, H3⟩, ⟨%f4, %e4, H4⟩, ⟨%f5, %e5, H5⟩⟩ Hk
  sl_exec
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  iexists _
  isplitr
  swap; · iexact H5
  ipureintro
  rw [View.read_writes_full, View.readAt_full, View.readAt_full, View.readAt_full, e1, e3, e4]
  unfold scaled
  congr 1
  · exact readAt_statCol M2.view f2 e2 0 _
  · exact readAt_statCol M2.view f2 e2 1 _

end Cert.KernelIdeal.Norm

end
-- ==== Proof.Third.lean ====
/-
  The third call on one device: its data between grid points, its body at a point, and what it leaves in the result's
  array.
-/
module

public import proofs.«01_k».proof.Proof.Normalize
public import proofs.«01_k».proof.Proof.Gen.KernelIdeal.Points
public import Idealize.ShloMosaic.Lib.Pipeline.Value
public import Idealize.ShloMosaic.Lib.Pipeline.FrameBody

@[expose] public section

noncomputable section

namespace Cert.KernelIdeal.Norm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)
open Cert.KernelIdeal.Gen

variable {F : FTy → Type} [FloatOps F]

local notation "𝕄" => MT nD τ sig Bool (Elt F) ℕ UU ℕ

/-- The rows of block `t`: rows `1024 t` to `1024 t + 1023`. -/
def block {n : ℕ} (X : Vec F ⟨2, ![4096, n]⟩ .f32) (t : Fin 4) : Vec F ⟨2, ![1024, n]⟩ .f32 :=
  fun i => X (ValueIdx.ix2 ⟨1024 * t.val + (i 0).val, by have h0 : (i 0).val < 1024 := (i 0).isLt; have := t.isLt; omega⟩ (i 1))

/-- The whole result on one device, block by block. -/
def layer (X : Vec F S4096x1024 .f32) (R : Vec F S4096x2 .f32) (g b : Vec F S1024 .f32) : Vec F S4096x1024 .f32 :=
  fun i => scaled (block X ⟨(i 0).val / 1024, by have h0 : (i 0).val < 4096 := (i 0).isLt; omega⟩) (block R ⟨(i 0).val / 1024, by have h0 : (i 0).val < 4096 := (i 0).isLt; omega⟩) g b
    (ValueIdx.ix2 ⟨(i 0).val % 1024, Nat.mod_lt _ (by norm_num)⟩ (i 1))

/-- A point of the grid as a block number. -/
abbrev blockAt (t : Fin cfg2.N) : Fin 4 := ⟨t.val, lt_of_lt_of_eq t.isLt N_2⟩

variable (X : Vec F S4096x1024 .f32) (R : Vec F S4096x2 .f32) (g b : Vec F S1024 .f32) (d₀ : Vec F S4096x1024 .f32)

/-- Block `t` of the result. -/
abbrev outBlock (t : Fin cfg2.N) : Vec F S1024x1024 .f32 := scaled (block X (blockAt t)) (block R (blockAt t)) g b

/-- The third call's data: the arrays at entry, and after each point the blocks fetched and the block computed. -/
def dat2 (c : Dev nD) : Dat τ (Elt F) Bool ℕ UU ℕ cfg2 c where
  A w := match w with
    | ⟨0, _⟩ => X
    | ⟨1, _⟩ => R
    | ⟨2, _⟩ => g
    | ⟨3, _⟩ => b
    | ⟨4, _⟩ => d₀
  after w t := match w with
    | ⟨0, _⟩ => block X (blockAt t)
    | ⟨1, _⟩ => block R (blockAt t)
    | ⟨2, _⟩ => g
    | ⟨3, _⟩ => b
    | ⟨4, _⟩ => outBlock X R g b t
  Φ _ := Pipeline.scopedRest (Ix := Bool) (Name := ℕ) (U := UU) (Lvl := ℕ) (Val := Elt F) spec2 c
  q _ := fullShare
  owed _ := 0

theorem index2_0 : ∀ t : Fin cfg2.N, win2_0.index t 0 = t.val ∧ win2_0.index t 1 = 0 :=
  (by decide +kernel : ∀ t : Fin grid2.N, win2_0.index t 0 = t.val ∧ win2_0.index t 1 = 0)
theorem index2_1 : ∀ t : Fin cfg2.N, win2_1.index t 0 = t.val ∧ win2_1.index t 1 = 0 :=
  (by decide +kernel : ∀ t : Fin grid2.N, win2_1.index t 0 = t.val ∧ win2_1.index t 1 = 0)
theorem index2_2 : ∀ (t : Fin cfg2.N) (a : Fin 1), win2_2.index t a = 0 :=
  (by decide +kernel : ∀ (t : Fin grid2.N) (a : Fin 1), win2_2.index t a = 0)
theorem index2_3 : ∀ (t : Fin cfg2.N) (a : Fin 1), win2_3.index t a = 0 :=
  (by decide +kernel : ∀ (t : Fin grid2.N) (a : Fin 1), win2_3.index t a = 0)
theorem index2_4 : ∀ t : Fin cfg2.N, win2_4.index t 0 = t.val ∧ win2_4.index t 1 = 0 :=
  (by decide +kernel : ∀ t : Fin grid2.N, win2_4.index t 0 = t.val ∧ win2_4.index t 1 = 0)

/-- An element of block `t` of the rows sits `1024 t` rows down the array. -/
theorem emb2_0 (t : Fin cfg2.N) (i : S1024x1024.Idx) : (win2_0.rect t).emb i = ValueIdx.ix2 ⟨1024 * t.val + (i 0).val, by
    have h0 : (i 0).val < 1024 := (i 0).isLt; have : t.val < 4 := lt_of_lt_of_eq t.isLt N_2; omega⟩ (i 1) := by
  have e := index2_0 t
  refine funext fun a => Fin.ext ?_
  refine (Pipeline.Window.rect_emb_val win2_0 t i a).trans ?_
  revert a
  refine Fin.forall_fin_two.2 ⟨?_, ?_⟩
  · rw [e.1]
    show t.val * 1024 + (i 0).val = 1024 * t.val + (i 0).val
    omega
  · rw [e.2]
    show 0 * 1024 + (i 1).val = (i 1).val
    omega

theorem emb2_1 (t : Fin cfg2.N) (i : S1024x2.Idx) : (win2_1.rect t).emb i = ValueIdx.ix2 ⟨1024 * t.val + (i 0).val, by
    have h0 : (i 0).val < 1024 := (i 0).isLt; have : t.val < 4 := lt_of_lt_of_eq t.isLt N_2; omega⟩ (i 1) := by
  have e := index2_1 t
  refine funext fun a => Fin.ext ?_
  refine (Pipeline.Window.rect_emb_val win2_1 t i a).trans ?_
  revert a
  refine Fin.forall_fin_two.2 ⟨?_, ?_⟩
  · rw [e.1]
    show t.val * 1024 + (i 0).val = 1024 * t.val + (i 0).val
    omega
  · rw [e.2]
    show 0 * 2 + (i 1).val = (i 1).val
    omega

theorem emb2_4 (t : Fin cfg2.N) (i : S1024x1024.Idx) : (win2_4.rect t).emb i = ValueIdx.ix2 ⟨1024 * t.val + (i 0).val, by
    have h0 : (i 0).val < 1024 := (i 0).isLt; have : t.val < 4 := lt_of_lt_of_eq t.isLt N_2; omega⟩ (i 1) := by
  have e := index2_4 t
  refine funext fun a => Fin.ext ?_
  refine (Pipeline.Window.rect_emb_val win2_4 t i a).trans ?_
  revert a
  refine Fin.forall_fin_two.2 ⟨?_, ?_⟩
  · rw [e.1]
    show t.val * 1024 + (i 0).val = 1024 * t.val + (i 0).val
    omega
  · rw [e.2]
    show 0 * 1024 + (i 1).val = (i 1).val
    omega

theorem blk2_0 (c : Dev nD) (t : Fin cfg2.N) : (dat2 X R g b d₀ c).blockOf 0 t = block X (blockAt t) :=
  funext fun i => congrArg X (emb2_0 t i)

theorem blk2_1 (c : Dev nD) (t : Fin cfg2.N) : (dat2 X R g b d₀ c).blockOf 1 t = block R (blockAt t) :=
  funext fun i => congrArg R (emb2_1 t i)

theorem blk2_2 (c : Dev nD) (t : Fin cfg2.N) : (dat2 X R g b d₀ c).blockOf 2 t = g :=
  funext fun i => congrArg g (funext fun a => Fin.ext (Pipeline.Window.rect_emb_val_of_index_zero win2_2 t a (index2_2 t a) i))

theorem blk2_3 (c : Dev nD) (t : Fin cfg2.N) : (dat2 X R g b d₀ c).blockOf 3 t = b :=
  funext fun i => congrArg b (funext fun a => Fin.ext (Pipeline.Window.rect_emb_val_of_index_zero win2_3 t a (index2_3 t a) i))

theorem before2_0 (c : Dev nD) (t : Fin cfg2.N) (d) : (dat2 X R g b d₀ c).before 0 t d = block X (blockAt t) :=
  ((dat2 X R g b d₀ c).before_in_eq_fetched 0 rfl (fun _ => rfl) (fun _ _ _ => rfl) (fun t => (blk2_0 X R g b d₀ c t).symm) t d).trans (blk2_0 X R g b d₀ c t)

theorem before2_1 (c : Dev nD) (t : Fin cfg2.N) (d) : (dat2 X R g b d₀ c).before 1 t d = block R (blockAt t) :=
  ((dat2 X R g b d₀ c).before_in_eq_fetched 1 rfl (fun _ => rfl) (fun _ _ _ => rfl) (fun t => (blk2_1 X R g b d₀ c t).symm) t d).trans (blk2_1 X R g b d₀ c t)

theorem before2_2 (c : Dev nD) (t : Fin cfg2.N) (d) : (dat2 X R g b d₀ c).before 2 t d = g :=
  ((dat2 X R g b d₀ c).before_in_eq_fetched 2 rfl (fun _ => rfl) (fun _ _ _ => rfl) (fun t => (blk2_2 X R g b d₀ c t).symm) t d).trans (blk2_2 X R g b d₀ c t)

theorem before2_3 (c : Dev nD) (t : Fin cfg2.N) (d) : (dat2 X R g b d₀ c).before 3 t d = b :=
  ((dat2 X R g b d₀ c).before_in_eq_fetched 3 rfl (fun _ => rfl) (fun _ _ _ => rfl) (fun t => (blk2_3 X R g b d₀ c t).symm) t d).trans (blk2_3 X R g b d₀ c t)

/-- The third call's body keeps its data at every point. -/
theorem body2 (c : Dev nD) : BodyObligation (dat2 X R g b d₀ c) (defs₀ (F := F)) 𝒱₀ false Set.univ := fun t => by
  rw [bigSep_W2, bigSep_W2, show (dat2 X R g b d₀ c).Φ t.succ = (dat2 X R g b d₀ c).Φ t.castSucc from rfl,
    show (dat2 X R g b d₀ c).owesAt false t.succ = (dat2 X R g b d₀ c).owesAt false t.castSucc from rfl]
  iintro ⟨HΦ, Howes, ⟨%d0, H0⟩, ⟨%d1, H1⟩, ⟨%d2, H2⟩, ⟨%d3, H3⟩, ⟨%d4, H4⟩⟩
  rw [before2_0, before2_1, before2_2, before2_3]
  iapply (normalize (F := F) c (grid2.coords t) _ (hstage2_0 ((cfg2.slots t 0).cast nbuf2_0)) _ (hstage2_1 ((cfg2.slots t 1).cast nbuf2_1))
    _ (hstage2_2 ((cfg2.slots t 2).cast nbuf2_2)) _ (hstage2_3 ((cfg2.slots t 3).cast nbuf2_3)) _ (hstage2_4 ((cfg2.slots t 4).cast nbuf2_4))
    (block X (blockAt t)) (block R (blockAt t)) g b ((dat2 X R g b d₀ c).before 4 t d4) _) $$ [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-- What a point writes back is its block of the whole result. -/
theorem flushed2 (c : Dev nD) (t : Fin cfg2.N) :
    (dat2 X R g b d₀ c).flushed 4 t = ((cfg2.win 4).blk t).view.read (Elt F) (layer X R g b) := by
  funext i
  refine Eq.trans (b := scaled (block X (blockAt t)) (block R (blockAt t)) g b i) rfl ?_
  refine Eq.trans ?_ (congrArg (layer X R g b) (emb2_4 t i)).symm
  have h0 : (i 0).val < 1024 := (i 0).isLt
  have hq : (⟨(1024 * t.val + (i 0).val) / 1024, by have := (blockAt t).isLt; dsimp only at this; omega⟩ : Fin 4) = blockAt t := Fin.ext (by show (1024 * t.val + (i 0).val) / 1024 = t.val; omega)
  have hr : (⟨(1024 * t.val + (i 0).val) % 1024, Nat.mod_lt _ (by norm_num)⟩ : Fin 1024) = i 0 := Fin.ext (by show (1024 * t.val + (i 0).val) % 1024 = (i 0).val; omega)
  show _ = scaled (block X ⟨(1024 * t.val + (i 0).val) / 1024, _⟩) (block R ⟨(1024 * t.val + (i 0).val) / 1024, _⟩) g b (ValueIdx.ix2 ⟨(1024 * t.val + (i 0).val) % 1024, _⟩ (i 1))
  rw [hq, hr]
  exact congrArg _ (ValueIdx.eq_ix2 i)

theorem emb_mem {s : Shape} (r : Rect s) (y : r.shape.Idx) : r.emb y ∈ r.set := r.map_emb_univ ▸ Finset.mem_map_of_mem r.emb (Finset.mem_univ y)

theorem mem_blk2 (t : Fin cfg2.N) (i : S4096x1024.Idx) (y : S1024x1024.Idx) (h : (win2_4.rect t).emb y = i) : i ∈ ((cfg2.win 4).blk t).view.set := by
  have hs : ((View.whole main_v3).slice (win2_4.rect t)).set = (win2_4.rect t).set := View.set_slice_whole _ _
  show i ∈ ((View.whole main_v3).slice (win2_4.rect t)).set
  rw [hs, ← h]
  exact emb_mem _ _

/-- The blocks cover the result. -/
theorem cover2 (i : S4096x1024.Idx) : ∃ t : Fin cfg2.N, (cfg2.win 4).flush t = true ∧ i ∈ ((cfg2.win 4).blk t).view.set := by
  have h0 : (i 0).val < 4096 := (i 0).isLt
  have hN : cfg2.N = 4 := N_2
  refine ⟨⟨(i 0).val / 1024, by omega⟩, flush2_4 _, mem_blk2 _ i (ValueIdx.ix2 ⟨(i 0).val % 1024, Nat.mod_lt _ (by norm_num)⟩ (i 1)) ?_⟩
  refine (emb2_4 _ _).trans ?_
  refine Eq.trans ?_ (ValueIdx.eq_ix2 i).symm
  congr 1
  exact Fin.ext (by show 1024 * ((i 0).val / 1024) + (i 0).val % 1024 = (i 0).val; omega)

/-- The result's array after the third call. -/
theorem final2 (c : Dev nD) : (dat2 X R g b d₀ c).arrAt 4 cfg2.N = layer X R g b :=
  (dat2 X R g b d₀ c).arrAt_eq_of_cover 4 (layer X R g b) (fun t _ => flushed2 X R g b d₀ c t) cover2

end Cert.KernelIdeal.Norm

end
-- ==== Proof.Slots.lean ====
/-
  The gathered buffer slot by slot: held whole it is held slot by slot, at any share; a slot held whole is a kept share and
  seven lent ones. And the operands the exchange's text prints, in closed form.
-/
module

public import proofs.«01_k».proof.Proof.Steps
public import Idealize.ShloMosaic.Lib.Ring

@[expose] public section

noncomputable section

namespace Cert.KernelIdeal.Norm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Bool (Elt F) ℕ UU ℕ

/-! ## Slots -/

theorem slot_set (j : Dev nD) : (slot j).view.set = (slotRect j).set :=
  (View.set_reshape (Memref.whole cc1_scratch0 |>.slice (slotRect j) (fun _ => rfl)).view squeezes_S1x2x4096_S2x4096.numel_eq).trans
    (View.set_slice_whole cc1_scratch0 (slotRect j))

theorem slots_disjoint (b b' : Dev nD) (h : b ≠ b') : Disjoint (slotRect b).set (slotRect b').set :=
  Ring.lead_disjoint (s := S8x2x4096) (NB := 8) (0 : Fin 3) 1 (fun j => ![j.val, 0, 0]) S1x2x4096.size slot_inb
    (fun b => (Nat.one_mul b.val).symm) rfl b b' h

theorem slots_cover : Finset.univ.biUnion (fun j : Dev nD => (slotRect j).set) = Finset.univ :=
  Ring.lead_cover (s := S8x2x4096) (NB := 8) (0 : Fin 3) 1 (fun j => ![j.val, 0, 0]) S1x2x4096.size slot_inb
    (fun b => (Nat.one_mul b.val).symm) (by intro b a ha; fin_cases a <;> first | exact absurd rfl ha | rfl) rfl
    (by intro a ha; fin_cases a <;> first | exact absurd rfl ha | rfl) rfl

theorem whole_slots (c : Dev nD) (q : PosShare TreeShare) (f : Gathered F) :
    ((((c : Thread nD τ).loc cc1_scratch0) ↦{q} f : sProp 𝕄)) = bigSep Finset.univ fun j : Dev nD => slotPts c j q f := by
  rw [show (fun j : Dev nD => (slotPts c j q f : sProp 𝕄)) = fun j => ((c : Thread nD τ).loc cc1_scratch0) ↦[(slotRect j).set]{q} f
    from funext fun j => by unfold slotPts; rw [slot_set]]
  exact Ring.pointsTo_blocks (ℓ := (c : Thread nD τ).loc cc1_scratch0) (fun j : Dev nD => (slotRect j).set) slots_disjoint slots_cover f

/-- A slot held whole is the kept share with the seven lent ones. -/
theorem slot_shares (c j : Dev nD) (f : Gathered F) :
    (slotPts c j fullShare f : sProp 𝕄) = iprop(slotPts c j keepShare f ∗ bigSep Finset.univ fun i : Fin 7 => slotPts c j (tokShare i) f) :=
  BI.equiv_iff.mp ⟨Transfers.pointsTo_toks_split fullShare 7, Transfers.pointsTo_toks_join fullShare 7⟩

/-! ## The printed operands -/

section Printed

variable (c : Dev nD)

theorem view_eq {j : Dev nD} {off : Fin 3 → ℕ} (h : off = ![j.val, 0, 0]) (inb : ∀ a, off a + S1x2x4096.size a ≤ S8x2x4096.size a) :
    (((Memref.whole cc1_scratch0 : Memref sig .tc .vmem S8x2x4096 .f32).slice (Rect.unit (s := S8x2x4096) off S1x2x4096.size inb) (fun _ => rfl)).squeeze S2x4096 squeezes_S1x2x4096_S2x4096)
      = slot j := by subst h; rfl

theorem own_view : k1_off3 c = ![c.val, 0, 0] := by revert c; decide +kernel
theorem peer_view (i : Fin 7) : k1_off5 c (BitVec.ofNat 32 (i.val + 1)) = ![(pr c i).val, 0, 0] := by revert c i; decide +kernel

theorem recv_sem {s : Dev nD} {off : Fin 1 → ℕ} (h : off = ![s.val]) (inb : ∀ a, off a + S1.size a ≤ S8.size a) :
    ((cc1_scratch2.slice (Rect.unit (s := S8) off S1.size inb)).squeeze S_ squeezes_S1_S_).sem = recvSem s := by
  subst h; revert s; decide +kernel
theorem own_recv : k1_off2 c = ![c.val] := by revert c; decide +kernel
theorem peer_recv (i : Fin 7) : k1_off4 c (BitVec.ofNat 32 (i.val + 1)) = ![(pr c i).val] := by revert c i; decide +kernel

/-- The devices the signals and the transfers are addressed to. -/
def sigDev : Fin 7 → Dev nD := ![⟨k1_dev1 c, k1_dev1_lt c⟩, ⟨k1_dev2 c, k1_dev2_lt c⟩, ⟨k1_dev3 c, k1_dev3_lt c⟩, ⟨k1_dev4 c, k1_dev4_lt c⟩,
  ⟨k1_dev5 c, k1_dev5_lt c⟩, ⟨k1_dev6 c, k1_dev6_lt c⟩, ⟨k1_dev7 c, k1_dev7_lt c⟩]
theorem sigDev_eq (i : Fin 7) : sigDev c i = pr c i := by revert c i; decide +kernel
def sendDev : Fin 7 → Dev nD := ![⟨k1_dev8 c, k1_dev8_lt c⟩, ⟨k1_dev9 c, k1_dev9_lt c⟩, ⟨k1_dev10 c, k1_dev10_lt c⟩, ⟨k1_dev11 c, k1_dev11_lt c⟩,
  ⟨k1_dev12 c, k1_dev12_lt c⟩, ⟨k1_dev13 c, k1_dev13_lt c⟩, ⟨k1_dev14 c, k1_dev14_lt c⟩]
theorem sendDev_eq (i : Fin 7) : sendDev c i = pr c i := by revert c i; decide +kernel

end Printed

/-! ## What the body's accesses hold -/

/-- The store of the own sums puts them in the own slot. -/
theorem own_store (P : Dev nD → Vec F S2x4096 .f32) (c : Dev nD) (f : Gathered F) {off : Fin 3 → ℕ} (h : off = ![c.val, 0, 0])
    (inb : ∀ a, off a + S1x2x4096.size a ≤ S8x2x4096.size a) :
    ∀ i ∈ (slot c).view.set, ((Memref.whole cc1_scratch0 : Memref sig .tc .vmem S8x2x4096 .f32).access (Rect.unit (s := S8x2x4096) off S1x2x4096.size inb)
      : View sig .tc _ _ _).write (Elt F) f (k1_pay1 (P c)) Finset.univ i = gath P i := by
  subst h
  intro i hi
  rw [slot_set, ← View.set_slice_whole cc1_scratch0 (slotRect c)] at hi
  obtain ⟨y, -, rfl⟩ := Finset.mem_map.mp hi
  refine (View.write_emb_of_mem (v := (Memref.whole cc1_scratch0 : Memref sig .tc .vmem S8x2x4096 .f32).access (slotRect c)) f (k1_pay1 (P c))
    (Finset.mem_univ y)).trans ?_
  show k1_pay1 (P c) y = gath P ((slotRect c).emb y)
  obtain ⟨u, a, b, rfl⟩ : ∃ (u : Fin 1) (a : Fin 2) (b : Fin 4096), y = ValueIdx.ix3 u a b := ⟨_, _, _, ValueIdx.eq_ix3 y⟩
  unfold k1_pay1 gath
  refine (ValueIdx.shapeCast_ab_1ab_apply _ shapeCasts_S2x4096_S1x2x4096 u a b).trans ?_
  rw [shapeCast_self]
  have e0 : ((slotRect c).emb (ValueIdx.ix3 u a b)) 0 = c := Fin.ext (by
    have hu : u.val = 0 := by omega
    show c.val + 1 * u.val = c.val; rw [hu]; rfl)
  have e1 : ((slotRect c).emb (ValueIdx.ix3 u a b)) 1 = a := Fin.ext (by show 0 + 1 * a.val = a.val; omega)
  have e2 : ((slotRect c).emb (ValueIdx.ix3 u a b)) 2 = b := Fin.ext (by show 0 + 1 * b.val = b.val; omega)
  rw [e0, e1, e2]

/-- The two columns the body stores: the means, and the reciprocal deviations. -/
def stats (g : Gathered F) : Vec F S4096x2 .f32 := fun i =>
  if (i 1).val = 0 then k1_pay3 g (ValueIdx.ix2 (i 0) 0) else k1_pay4 g (ValueIdx.ix2 (i 0) 0)

abbrev col (k : Fin 2) (inb : ∀ a, (![0, k.val] : Fin 2 → ℕ) a + S4096x1.size a ≤ S4096x2.size a) : Rect S4096x2 :=
  Rect.unit (s := S4096x2) ![0, k.val] S4096x1.size inb

theorem col_emb (k : Fin 2) (inb) (a : Fin 4096) (u : Fin 1) : (col k inb).emb (ValueIdx.ix2 a u) = ValueIdx.ix2 a k := by
  funext x
  match x with
  | ⟨0, _⟩ => exact Fin.ext (by show 0 + 1 * a.val = a.val; omega)
  | ⟨1, _⟩ => exact Fin.ext (by have hu : u.val = 0 := by omega
                                show k.val + 1 * u.val = k.val; omega)

/-- Two columns stored make the whole. -/
theorem stats_store (g : Gathered F) (d : Vec F S4096x2 .f32) :
    ((Memref.whole cc1_stg1_0 : Memref sig .tc .vmem S4096x2 .f32).access (Rect.unit (s := S4096x2) ![0, 1] S4096x1.size inb_S4096x2_S4096x1_0_1)
      : View sig .tc _ _ _).write (Elt F) (((Memref.whole cc1_stg1_0 : Memref sig .tc .vmem S4096x2 .f32).access (Rect.unit (s := S4096x2) ![0, 0] S4096x1.size inb_S4096x2_S4096x1_0_0)
      : View sig .tc _ _ _).write (Elt F) d (k1_pay3 g) Finset.univ) (k1_pay4 g) Finset.univ = stats g := by
  funext i
  obtain ⟨a, b, rfl⟩ : ∃ (a : Fin 4096) (b : Fin 2), i = ValueIdx.ix2 a b := ⟨_, _, ValueIdx.eq_ix2 i⟩
  obtain rfl | rfl : b = 1 ∨ b = 0 := by fin_cases b <;> simp
  · have h := View.write_emb_of_mem (v := ((Memref.whole cc1_stg1_0 : Memref sig .tc .vmem S4096x2 .f32).access (col 1 inb_S4096x2_S4096x1_0_1)
      : View sig .tc _ _ _)) (Val := Elt F) (((Memref.whole cc1_stg1_0 : Memref sig .tc .vmem S4096x2 .f32).access (col 0 inb_S4096x2_S4096x1_0_0)
      : View sig .tc _ _ _).write (Elt F) d (k1_pay3 g) Finset.univ) (k1_pay4 g) (Finset.mem_univ (ValueIdx.ix2 a 0))
    exact (congrArg _ (col_emb 1 inb_S4096x2_S4096x1_0_1 a 0).symm).trans h
  · refine (View.write_of_not_mem _ _ _ ?_).trans ?_
    · intro hm
      rw [View.setOn_univ, View.set_slice_whole] at hm
      have := (Rect.mem_set_unit.mp hm) 1
      exact absurd this.1 (by show ¬ 1 ≤ 0; omega)
    · have h := View.write_emb_of_mem (v := ((Memref.whole cc1_stg1_0 : Memref sig .tc .vmem S4096x2 .f32).access (col 0 inb_S4096x2_S4096x1_0_0)
        : View sig .tc _ _ _)) (Val := Elt F) d (k1_pay3 g) (Finset.mem_univ (ValueIdx.ix2 a 0))
      exact (congrArg _ (col_emb 0 inb_S4096x2_S4096x1_0_0 a 0).symm).trans h

end Cert.KernelIdeal.Norm

end
-- ==== Proof.Exchange.lean ====
/-
  The second call's body on one device: it puts its own sums in its slot, tells the other seven that it is ready, waits for
  the seven, sends its slot to each of them, waits for the seven slots to arrive, forms mean and reciprocal deviation from
  the gathered sums, and waits for its own transfers to be read.
-/
module

public import proofs.«01_k».proof.Proof.Slots

@[expose] public section

noncomputable section

namespace Cert.KernelIdeal.Norm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Cert.KernelIdeal.Gen

variable {F : FTy → Type} [FloatOps F]

local notation "𝕄" => MT nD τ sig Bool (Elt F) ℕ UU ℕ

/-! ## What the body starts from and ends with -/

/-- The tokens of the payments device `c` makes to, and for the transfer to, its `i`-th peer. -/
def tokens (c : Dev nD) (i : Fin 7) : sProp 𝕄 :=
  iprop(dutyTok EB (barCell (pr c i)) 0 c ∗ dutyTok EB (recvCell (pr c i) c) 0 0 ∗ dutyTok EB (sendCell c i) 0 0)

/-- The opened receive and send semaphores of the `i`-th peer. -/
def opened (c : Dev nD) (i : Fin 7) : sProp 𝕄 :=
  iprop((atPos EB (recvCell c (pr c i)) 0 ∅ 0 ∗ reached EB (recvCell c (pr c i)) 0) ∗ (atPos EB (sendCell c i) 0 ∅ 0 ∗ reached EB (sendCell c i) 0))

/-- What the rest of the mesh will give device `c`, by the launch. -/
def credits (c : Dev nD) : sProp 𝕄 :=
  iprop(cred (tallyAt (barCell c) true 7) ∗ bigSep Finset.univ fun i : Fin 7 => cred (tallyAt (recvCell c (pr c i)) true N))

def passed (c : Dev nD) (i : Fin 7) : sProp 𝕄 :=
  iprop(atPos EB (recvCell c (pr c i)) 1 ∅ 0 ∗ atPos EB (sendCell c i) 1 ∅ 0)

abbrev stgIn : Memref sig .tc .vmem S2x4096 .f32 := Memref.whole cc1_stg0_0
abbrev stgOut : Memref sig .tc .vmem S4096x2 .f32 := Memref.whole cc1_stg1_0
abbrev gatM : Memref sig .tc .vmem S8x2x4096 .f32 := Memref.whole cc1_scratch0

section Parts

variable (c : Dev nD)

theorem opened_parts : (bigSep Finset.univ (opened (F := F) c) : sProp 𝕄)
    = iprop(((bigSep Finset.univ fun i => atPos EB (recvCell c (pr c i)) 0 ∅ 0) ∗ bigSep Finset.univ fun i => reached EB (recvCell c (pr c i)) 0)
      ∗ ((bigSep Finset.univ fun i => atPos EB (sendCell c i) 0 ∅ 0) ∗ bigSep Finset.univ fun i => reached EB (sendCell c i) 0)) := by
  unfold opened; rw [bigSep_sep', bigSep_sep', bigSep_sep']

theorem tokens_parts : (bigSep Finset.univ (tokens (F := F) c) : sProp 𝕄)
    = iprop((bigSep Finset.univ fun i => dutyTok EB (barCell (pr c i)) 0 c) ∗ (bigSep Finset.univ fun i => dutyTok EB (recvCell (pr c i) c) 0 0)
      ∗ bigSep Finset.univ fun i => dutyTok EB (sendCell c i) 0 0) := by
  unfold tokens; rw [bigSep_sep', bigSep_sep']

theorem passed_parts : (bigSep Finset.univ (passed (F := F) c) : sProp 𝕄)
    = iprop((bigSep Finset.univ fun i => atPos EB (recvCell c (pr c i)) 1 ∅ 0) ∗ bigSep Finset.univ fun i => atPos EB (sendCell c i) 1 ∅ 0) := by
  unfold passed; rw [bigSep_sep']

/-- Ready to signal: the other devices' slots are at hand. -/
theorem sig_start (W : Waits sig Bool) (f : Gathered F) :
    iprop(owes (c : Thread nD τ) (O₀ c) W ∗ (bigSep Finset.univ fun i => dutyTok EB (barCell (pr c i)) 0 c)
        ∗ (bigSep Finset.univ fun i => slotPts c (pr c i) fullShare f) ∗ bigSep Finset.univ fun i => reached EB (recvCell c (pr c i)) 0)
      ⊢ (sigState c W 0 : sProp 𝕄) := by
  unfold sigState
  rw [bigSep_finFrom_zero]
  iintro ⟨HO, Ht, Hs, Hr⟩
  isplitl [HO]; · iexact HO
  have h : iprop((bigSep Finset.univ fun i => dutyTok EB (barCell (pr c i)) 0 c)
        ∗ (bigSep Finset.univ fun i => slotPts c (pr c i) fullShare f) ∗ bigSep Finset.univ fun i => reached EB (recvCell c (pr c i)) 0)
      ⊢ (bigSep Finset.univ (sigPart c) : sProp 𝕄) := by
    refine (Entails.of_eq (by rw [bigSep_sep', bigSep_sep'])).trans (bigSep_mono (Φ := fun i => iprop(dutyTok EB (barCell (pr c i)) 0 c ∗ slotPts c (pr c i) fullShare f ∗ reached EB (recvCell c (pr c i)) 0)) fun i _ => ?_)
    show iprop(dutyTok EB (barCell (pr c i)) 0 c ∗ slotPts c (pr c i) fullShare f ∗ reached EB (recvCell c (pr c i)) 0)
      ⊢ iprop(dutyTok EB (barCell (pr c i)) 0 c ∗ (∃ f, slotPts c (pr c i) fullShare f) ∗ reached EB (recvCell c (pr c i)) 0)
    iintro ⟨Ht, Hs, Hr⟩
    isplitl [Ht]; · iexact Ht
    isplitl [Hs]; · iexists f; iexact Hs
    iexact Hr
  iapply h
  isplitl [Ht]; · iexact Ht
  isplitl [Hs] <;> iassumption

/-- All signals given. -/
theorem sig_end (W : Waits sig Bool) : (sigState c W 7 : sProp 𝕄) ⊢ owes (c : Thread nD τ) (owedSend c 0) W := by
  unfold sigState
  rw [bigSep_finFrom_self, owedBar_end, add_zero]
  iintro ⟨H, -⟩
  iexact H

/-- Ready to send: the own slot is lent out in seven shares, and each peer's slot is at hand. -/
theorem send_start (G : Gathered F) (W : Waits sig Bool) :
    iprop(owes (c : Thread nD τ) (owedSend c 0) W ∗ (bigSep Finset.univ fun i => dutyTok EB (sendCell c i) 0 0)
        ∗ (bigSep Finset.univ fun i => reached EB (sendCell c i) 0) ∗ (bigSep Finset.univ fun i => dutyTok EB (recvCell (pr c i) c) 0 0)
        ∗ (bigSep Finset.univ fun i => slotPts c c (tokShare i) G) ∗ bigSep Finset.univ fun i => barPay c (pr c i))
      ⊢ (sendState G c W 0 : sProp 𝕄) := by
  unfold sendState
  rw [bigSep_finFrom_zero, bigSep_finUpTo_zero]
  unfold sendPart
  rw [bigSep_sep', bigSep_sep', bigSep_sep', bigSep_sep']
  iintro ⟨HO, H⟩
  isplitl [HO]; · iexact HO
  isplitl [H]; · iexact H
  iempintro

theorem send_end (G : Gathered F) (W : Waits sig Bool) :
    (sendState G c W 7 : sProp 𝕄) ⊢ iprop(owes (c : Thread nD τ) (0 : CellTallies nD τ sig Bool) W ∗ bigSep Finset.univ fun i => cred (tallyAt (sendCell c i) true N)) := by
  unfold sendState
  rw [bigSep_finFrom_self, bigSep_finUpTo_self, owedSend_end]
  iintro ⟨HO, -, H⟩
  isplitl [HO] <;> iassumption

theorem wait_start (sm : Fin 7 → DmaSem sig) (Pay : Fin 7 → sProp 𝕄) (W : Waits sig Bool) :
    iprop(owes (c : Thread nD τ) (0 : CellTallies nD τ sig Bool) W ∗ (bigSep Finset.univ fun i => cred (tallyAt ((c : Thread nD τ), .dma (sm i)) true N))
        ∗ bigSep Finset.univ fun i => atPos EB ((c : Thread nD τ), .dma (sm i)) 0 ∅ 0)
      ⊢ waitState sm Pay c 0 := by
  unfold waitState
  rw [bigSep_finFrom_zero, bigSep_finUpTo_zero, bigSep_sep']
  iintro ⟨HO, H⟩
  isplitl [HO]; · iexists W; iexact HO
  isplitl [H]; · iexact H
  iempintro

theorem wait_end (sm : Fin 7 → DmaSem sig) (Pay : Fin 7 → sProp 𝕄) :
    waitState sm Pay c 7 ⊢ iprop((∃ W, owes (c : Thread nD τ) (0 : CellTallies nD τ sig Bool) W)
      ∗ (bigSep Finset.univ fun i => atPos EB ((c : Thread nD τ), .dma (sm i)) 1 ∅ 0) ∗ bigSep Finset.univ Pay) := by
  unfold waitState
  rw [bigSep_finFrom_self, bigSep_finUpTo_self, bigSep_sep']
  iintro ⟨HO, -, H⟩
  isplitl [HO] <;> iassumption

/-- Slots and kept shares, gathered for the one load of the whole buffer: the seven that arrived and the own one. -/
theorem gathered_eq (G : Gathered F) :
    (iprop(slotPts c c keepShare G ∗ bigSep Finset.univ fun i : Fin 7 => slotPts c (pr c i) fullShare G) : sProp 𝕄)
      = iprop((((c : Thread nD τ).loc cc1_scratch0) ↦{keepShare} G)
        ∗ bigSep Finset.univ fun i : Fin 7 => bigSep Finset.univ fun k : Fin 7 => slotPts c (pr c i) (tokShare k) G) := by
  rw [whole_slots, bigSep_dev c, show (fun i : Fin 7 => (slotPts c (pr c i) fullShare G : sProp 𝕄)) = fun i : Fin 7 => iprop(slotPts c (pr c i) keepShare G
    ∗ bigSep Finset.univ fun k : Fin 7 => slotPts c (pr c i) (tokShare k) G) from funext fun i => slot_shares c (pr c i) G, bigSep_sep']
  exact (BI.equiv_iff.mp ⟨BI.sep_assoc, BI.sep_assoc'⟩).symm

end Parts

theorem exchange (P : Dev nD → Vec F S2x4096 .f32) (κ : GSem nD τ sig → ℕ) (c : Dev nD) (W : Waits sig Bool) (d : Vec F S4096x2 .f32) (f : Gathered F)
    (Q : PUnit → sProp 𝕄) :
    iprop(records (gath P) κ ∗ levAts L lv ∗ owes (c : Thread nD τ) (O₀ c) W ∗ credits c ∗ atPos EB (barCell c) 0 ∅ 0
        ∗ bigSep Finset.univ (opened (F := F) c) ∗ bigSep Finset.univ (tokens (F := F) c)
        ∗ (((c : Thread nD τ).loc cc1_stg0_0) ↦{fullShare} P c) ∗ (((c : Thread nD τ).loc cc1_stg1_0) ↦{fullShare} d)
        ∗ (((c : Thread nD τ).loc cc1_scratch0) ↦{fullShare} f))
      ⊢ iprop(((∃ W, owes (c : Thread nD τ) (0 : CellTallies nD τ sig Bool) W) ∗ atPos EB (barCell c) 1 ∅ 0 ∗ bigSep Finset.univ (passed (F := F) c)
          ∗ (((c : Thread nD τ).loc cc1_stg0_0) ↦{fullShare} P c) ∗ (((c : Thread nD τ).loc cc1_stg1_0) ↦{fullShare} stats (gath P))
          ∗ (((c : Thread nD τ).loc cc1_scratch0) ↦{fullShare} gath P) -∗ Q ⟨⟩)
        -∗ wp frame (wpE (defs₀ (F := F)) 𝒱₀ (c : Thread nD τ) none) Set.univ
          (cc1_body stgIn (Memref.isWhole_whole _) stgOut (Memref.isWhole_whole _) gatM (Memref.isWhole_whole _) cc1_scratch1 cc1_scratch2) Q) := by
  simp only [cc1_body_eq_skeleton, cc1_body_skel, k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton, k1_part10_eq_skeleton, k1_part11_eq_skeleton,
    k1_part12_eq_skeleton, k1_part13_eq_skeleton, k1_part1_skel, k1_part2_skel, k1_part3_skel, k1_part4_skel, k1_part5_skel, k1_part6_skel, k1_part7_skel,
    k1_part8_skel, k1_part9_skel, k1_part10_skel, k1_part11_skel, k1_part12_skel, k1_part13_skel,
    semSignalWord, semWaitWord, Prog.lift, Prog.bind_op, Prog.bind_ret, Prog.pure_eq_ret, Prog.bind_assoc, wp_deviceId]
  rw [opened_parts, tokens_parts, passed_parts]
  unfold credits
  iintro ⟨#HR, #Hlev, HO, ⟨Hcb, Hcr⟩, HaB, ⟨⟨HaR, HrR⟩, ⟨HaS, HrS⟩⟩, ⟨HtB, HtR, HtS⟩, Hin, Hout, Hg⟩ HQ
  -- the own sums into the own slot
  iapply (wp_load 𝒱₀ (c : Thread nD τ) none Set.univ (m := stgIn) (Finset.subset_univ _)) $$ Hin; iintro Hin
  iapply (wp_load 𝒱₀ (c : Thread nD τ) none Set.univ (m := gatM) (Finset.subset_univ _)) $$ Hg; iintro Hg
  iapply (wp_store 𝒱₀ (c : Thread nD τ) none Set.univ (m := gatM) (r := Rect.unit (s := S8x2x4096) (k1_off1 c) S1x2x4096.size (k1_off1_inb c)) (Mk := Finset.univ) (Finset.subset_univ _)) $$ Hg; iintro Hg
  rw [show (stgIn : Memref sig .tc .vmem S2x4096 .f32).view.readAt (Elt F) (Rect.unit (s := S2x4096) ![0, 0] S2x4096.size inb_S2x4096_S2x4096_0_0).toLoadRect (P c) = P c from
    Memref.readAt_unit_zero (Elt F) cc1_stg0_0 (funext fun a => by fin_cases a <;> rfl) _ (P c)]
  ihave Hg := (Entails.of_eq ((whole_slots c fullShare _).trans (bigSep_dev c _))) $$ Hg
  icases Hg with ⟨Hown, Hothers⟩
  ihave Hown := (Entails.of_eq (pointsTo_congr (own_store P c f (k1_off1_eq c) _))) $$ Hown
  ihave Hown := (Entails.of_eq (slot_shares c c (gath P))) $$ Hown
  icases Hown with ⟨Hkeep, Hlent⟩
  -- seven signals
  ihave HS := (sig_start c W _) $$ [HO HtB Hothers HrR]
  · isplitl [HO]; · iexact HO
    isplitl [HtB]; · iexact HtB
    isplitl [Hothers] <;> iassumption

  iapply (signal_step (gath P) κ c W 0 (by decide) (sigDev_eq c 0)) $$ HR HS; iintro HS
  iapply (signal_step (gath P) κ c W 1 (by decide) (sigDev_eq c 1)) $$ HR HS; iintro HS
  iapply (signal_step (gath P) κ c W 2 (by decide) (sigDev_eq c 2)) $$ HR HS; iintro HS
  iapply (signal_step (gath P) κ c W 3 (by decide) (sigDev_eq c 3)) $$ HR HS; iintro HS
  iapply (signal_step (gath P) κ c W 4 (by decide) (sigDev_eq c 4)) $$ HR HS; iintro HS
  iapply (signal_step (gath P) κ c W 5 (by decide) (sigDev_eq c 5)) $$ HR HS; iintro HS
  iapply (signal_step (gath P) κ c W 6 (by decide) (sigDev_eq c 6)) $$ HR HS; iintro HS
  ihave HO := (sig_end c W) $$ HS
  -- the barrier
  iapply (barrier_step (gath P) κ c W) $$ [HO Hcb HaB]
  · isplitr; · iexact HR
    isplitr; · iexact Hlev
    isplitl [HO]; · iexact HO
    isplitl [Hcb] <;> iassumption
  iintro ⟨⟨%W', HO⟩, HaB, Hbar⟩
  -- seven transfers of the own slot
  ihave HD := (send_start c (gath P) W') $$ [HO HtS HrS HtR Hlent Hbar]
  · isplitl [HO]; · iexact HO
    isplitl [HtS]; · iexact HtS
    isplitl [HrS]; · iexact HrS
    isplitl [HtR]; · iexact HtR
    isplitl [Hlent] <;> iassumption
  iapply (send_step (gath P) κ c W' 0 (by decide) (sendDev_eq c 0) (view_eq (own_view c) _) rfl (recv_sem (own_recv c) _)) $$ HR HD; iintro HD
  iapply (send_step (gath P) κ c W' 1 (by decide) (sendDev_eq c 1) (view_eq (own_view c) _) rfl (recv_sem (own_recv c) _)) $$ HR HD; iintro HD
  iapply (send_step (gath P) κ c W' 2 (by decide) (sendDev_eq c 2) (view_eq (own_view c) _) rfl (recv_sem (own_recv c) _)) $$ HR HD; iintro HD
  iapply (send_step (gath P) κ c W' 3 (by decide) (sendDev_eq c 3) (view_eq (own_view c) _) rfl (recv_sem (own_recv c) _)) $$ HR HD; iintro HD
  iapply (send_step (gath P) κ c W' 4 (by decide) (sendDev_eq c 4) (view_eq (own_view c) _) rfl (recv_sem (own_recv c) _)) $$ HR HD; iintro HD
  iapply (send_step (gath P) κ c W' 5 (by decide) (sendDev_eq c 5) (view_eq (own_view c) _) rfl (recv_sem (own_recv c) _)) $$ HR HD; iintro HD
  iapply (send_step (gath P) κ c W' 6 (by decide) (sendDev_eq c 6) (view_eq (own_view c) _) rfl (recv_sem (own_recv c) _)) $$ HR HD; iintro HD
  icases (send_end c (gath P) W') $$ HD with ⟨HO, Hcs⟩
  -- the seven slots arrive
  ihave HV := (wait_start c (fun i => recvSem (pr c i)) (fun i => slotPts c (pr c i) fullShare (gath P)) W') $$ [HO Hcr HaR]
  · isplitl [HO]; · iexact HO
    isplitl [Hcr] <;> iassumption
  iapply (wait_step (gath P) κ c (recv_mem c) (fun i => rest_recv (gath P) c (pr c i)) 0 (by decide) (recv_sem (peer_recv c 0) _) (view_eq (peer_view c 0) _)) $$ HR HV; iintro HV
  iapply (wait_step (gath P) κ c (recv_mem c) (fun i => rest_recv (gath P) c (pr c i)) 1 (by decide) (recv_sem (peer_recv c 1) _) (view_eq (peer_view c 1) _)) $$ HR HV; iintro HV
  iapply (wait_step (gath P) κ c (recv_mem c) (fun i => rest_recv (gath P) c (pr c i)) 2 (by decide) (recv_sem (peer_recv c 2) _) (view_eq (peer_view c 2) _)) $$ HR HV; iintro HV
  iapply (wait_step (gath P) κ c (recv_mem c) (fun i => rest_recv (gath P) c (pr c i)) 3 (by decide) (recv_sem (peer_recv c 3) _) (view_eq (peer_view c 3) _)) $$ HR HV; iintro HV
  iapply (wait_step (gath P) κ c (recv_mem c) (fun i => rest_recv (gath P) c (pr c i)) 4 (by decide) (recv_sem (peer_recv c 4) _) (view_eq (peer_view c 4) _)) $$ HR HV; iintro HV
  iapply (wait_step (gath P) κ c (recv_mem c) (fun i => rest_recv (gath P) c (pr c i)) 5 (by decide) (recv_sem (peer_recv c 5) _) (view_eq (peer_view c 5) _)) $$ HR HV; iintro HV
  iapply (wait_step (gath P) κ c (recv_mem c) (fun i => rest_recv (gath P) c (pr c i)) 6 (by decide) (recv_sem (peer_recv c 6) _) (view_eq (peer_view c 6) _)) $$ HR HV; iintro HV
  icases (wait_end c (fun i => recvSem (pr c i)) (fun i => slotPts c (pr c i) fullShare (gath P))) $$ HV with ⟨⟨%W2, HO⟩, HaR, Hslots⟩
  icases (Entails.of_eq (gathered_eq c (gath P))) $$ [Hkeep Hslots] with ⟨Hall, Htoks⟩
  · isplitl [Hkeep] <;> iassumption
  iapply (wp_load 𝒱₀ (c : Thread nD τ) none Set.univ (m := gatM) (Finset.subset_univ _)) $$ Hall; iintro Hall
  rw [show (gatM : Memref sig .tc .vmem S8x2x4096 .f32).view.readAt (Elt F) (Rect.unit (s := S8x2x4096) ![0, 0, 0] S8x2x4096.size inb_S8x2x4096_S8x2x4096_0_0_0).toLoadRect (gath P) = gath P from
    Memref.readAt_unit_zero (Elt F) cc1_scratch0 (funext fun a => by fin_cases a <;> rfl) _ (gath P)]
  ihave Hg := (Entails.of_eq (gathered_eq c (gath P)).symm) $$ [Hall Htoks]
  · isplitl [Hall] <;> iassumption
  icases Hg with ⟨Hkeep, Hslots⟩
  -- mean and reciprocal deviation
  iapply (wp_load 𝒱₀ (c : Thread nD τ) none Set.univ (m := stgOut) (Finset.subset_univ _)) $$ Hout; iintro Hout
  iapply (wp_store 𝒱₀ (c : Thread nD τ) none Set.univ (m := stgOut) (r := Rect.unit (s := S4096x2) ![0, 0] S4096x1.size inb_S4096x2_S4096x1_0_0) (Mk := Finset.univ) (Finset.subset_univ _)) $$ Hout; iintro Hout
  iapply (wp_load 𝒱₀ (c : Thread nD τ) none Set.univ (m := stgOut) (Finset.subset_univ _)) $$ Hout; iintro Hout
  iapply (wp_store 𝒱₀ (c : Thread nD τ) none Set.univ (m := stgOut) (r := Rect.unit (s := S4096x2) ![0, 1] S4096x1.size inb_S4096x2_S4096x1_0_1) (Mk := Finset.univ) (Finset.subset_univ _)) $$ Hout; iintro Hout
  rw [stats_store (gath P) d]
  -- the transfers are read
  ihave HE := (wait_start c sendSem (fun i => slotPts c c (tokShare i) (gath P)) W2) $$ [HO Hcs HaS]
  · isplitl [HO]; · iexact HO
    isplitl [Hcs] <;> iassumption
  iapply (wait_step (gath P) κ c (send_mem c) (fun i => rest_send (gath P) c i) 0 (by decide) rfl (view_eq (own_view c) _)) $$ HR HE; iintro HE
  iapply (wait_step (gath P) κ c (send_mem c) (fun i => rest_send (gath P) c i) 1 (by decide) rfl (view_eq (own_view c) _)) $$ HR HE; iintro HE
  iapply (wait_step (gath P) κ c (send_mem c) (fun i => rest_send (gath P) c i) 2 (by decide) rfl (view_eq (own_view c) _)) $$ HR HE; iintro HE
  iapply (wait_step (gath P) κ c (send_mem c) (fun i => rest_send (gath P) c i) 3 (by decide) rfl (view_eq (own_view c) _)) $$ HR HE; iintro HE
  iapply (wait_step (gath P) κ c (send_mem c) (fun i => rest_send (gath P) c i) 4 (by decide) rfl (view_eq (own_view c) _)) $$ HR HE; iintro HE
  iapply (wait_step (gath P) κ c (send_mem c) (fun i => rest_send (gath P) c i) 5 (by decide) rfl (view_eq (own_view c) _)) $$ HR HE; iintro HE
  iapply (wait_step (gath P) κ c (send_mem c) (fun i => rest_send (gath P) c i) 6 (by decide) rfl (view_eq (own_view c) _)) $$ HR HE; iintro HE
  icases (wait_end c sendSem (fun i => slotPts c c (tokShare i) (gath P))) $$ HE with ⟨HO, HaS, Hlent⟩
  rw [wp_ret]
  imodintro
  iapply HQ
  isplitl [HO]; · iexact HO
  isplitl [HaB]; · iexact HaB
  isplitl [HaR HaS]; · isplitl [HaR] <;> iassumption
  isplitl [Hin]; · iexact Hin
  isplitl [Hout]; · iexact Hout
  rw [whole_slots, bigSep_dev c, slot_shares c c]
  isplitl [Hkeep Hlent]; · isplitl [Hkeep] <;> iassumption
  iexact Hslots

end Cert.KernelIdeal.Norm

end
-- ==== Proof.Partials.lean ====
/-
  The first call's body on one device: the device's columns come in by eight row blocks, each on its own semaphore, and
  of every block the row sums and the sums of the squares are stored side by side.
-/
module

public import proofs.«01_k».proof.Proof.Steps
public import Idealize.ShloMosaic.Lib.Exec

@[expose] public section

noncomputable section

namespace Cert.KernelIdeal.Norm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Cert.KernelIdeal.Gen

variable {F : FTy → Type} [FloatOps F]

local notation "𝕄" => MT nD τ sig Bool (Elt F) ℕ UU ℕ

/-- Rows `512 k … 512 k + 511` of the device's columns. -/
def rows (X : Vec F S4096x1024 .f32) (k : Fin 8) : Vec F S512x1024 .f32 := fun i =>
  X (ValueIdx.ix2 (⟨512 * k.val + (i 0).val, by have h : (i 0).val < 512 := (i 0).isLt; omega⟩ : Fin 4096) (i 1))

/-- The sums of every row and of its squares. -/
def partials (X : Vec F S4096x1024 .f32) : Vec F S2x4096 .f32 := fun i =>
  k0_pay1 (rows X ⟨(i 1).val / 512, by have h : (i 1).val < 4096 := (i 1).isLt; omega⟩)
    (ValueIdx.ix2 (i 0) (⟨(i 1).val % 512, Nat.mod_lt _ (by decide)⟩ : Fin 512))

abbrev inSem (k : Fin 8) : DmaSem sig := ⟨1 + k.val, by have h : k.val < 8 := k.isLt; show 1 + k.val < 35; omega⟩

/-! ## What the eight transfers leave, and what is stored of it -/

abbrev inRect (k : Fin 8) : Rect S4096x1024 := Rect.unit (s := S4096x1024) ![512 * k.val, 0] S512x1024.size
  (by revert k; decide)

abbrev outRect (k : Fin 8) : Rect S2x4096 := Rect.unit (s := S2x4096) ![0, 512 * k.val] S2x512.size
  (by revert k; decide)

def order : List (Fin 8) := [7, 6, 5, 4, 3, 2, 1, 0]
theorem mem_order (k : Fin 8) : k ∈ order := by revert k; decide

theorem inRect_emb (k : Fin 8) (x : S512x1024.Idx) :
    (inRect k).emb x = ValueIdx.ix2 (⟨512 * k.val + (x 0).val, by have h : (x 0).val < 512 := (x 0).isLt; have h' : k.val < 8 := k.isLt; omega⟩ : Fin 4096) (x 1) := by
  funext a
  fin_cases a
  · exact Fin.ext (congrArg (512 * k.val + ·) (Nat.one_mul _))
  · exact Fin.ext ((Nat.zero_add _).trans (Nat.one_mul _))

/-- A block's rows are read back once all the transfers have landed. -/
theorem landed (X : Vec F S4096x1024 .f32) (k : Fin 8) :
    (Memref.whole cc0_scratch0 : Memref sig .tc .vmem S4096x1024 .f32).view.readCov
      (order.map fun j => (⟨inRect j, fun x => X ((inRect j).emb x)⟩ : View.Piece (Elt F) S4096x1024 .f32)) (inRect k).toLoadRect = rows X k := by
  funext x
  unfold View.readCov
  rw [View.readAt_apply]
  refine (View.read_writes_apply_of_pieces _ _ X _ (fun p hp y => ?_) _ ⟨_, List.mem_map_of_mem (mem_order k), ?_⟩).trans ?_
  · obtain ⟨j, -, rfl⟩ := List.mem_map.mp hp; rfl
  · rw [← Rect.map_emb_univ]; exact Finset.mem_map_of_mem _ (Finset.mem_univ _)
  · exact congrArg X (inRect_emb k x)

theorem partials_at (X : Vec F S4096x1024 .f32) (j : Fin 8) (y : S2x512.Idx) (i : S2x4096.Idx) (h0 : (i 0).val = (y 0).val)
    (h1 : (i 1).val = 512 * j.val + (y 1).val) : partials X i = k0_pay1 (rows X j) y := by
  have hy : (y 1).val < 512 := (y 1).isLt
  unfold partials
  rw [show (⟨(i 1).val / 512, by have h : (i 1).val < 4096 := (i 1).isLt; omega⟩ : Fin 8) = j from Fin.ext (by show (i 1).val / 512 = j.val; omega)]
  refine congrArg (k0_pay1 (rows X j)) (funext fun a => ?_)
  fin_cases a
  · exact Fin.ext h0
  · exact Fin.ext (by show (i 1).val % 512 = (y 1).val; omega)

/-- The row block that holds column `i 1` of the sums. -/
def blockOf (i : S2x4096.Idx) : Fin 8 := ⟨(i 1).val / 512, by have h : (i 1).val < 4096 := (i 1).isLt; omega⟩

theorem mem_outRect (i : S2x4096.Idx) : i ∈ (outRect (blockOf i)).set := by
  have h0 : (i 0).val < 2 := (i 0).isLt
  rw [Rect.mem_set_unit]
  intro a
  fin_cases a
  · exact ⟨Nat.zero_le _, by show (i 0).val < 0 + 2; omega⟩
  · exact ⟨by show 512 * ((i 1).val / 512) ≤ (i 1).val; omega, by show (i 1).val < 512 * ((i 1).val / 512) + 512; omega⟩

def storedPieces (X : Vec F S4096x1024 .f32) : List (View.Piece (Elt F) S2x4096 .f32) := order.map fun j => ⟨outRect j, k0_pay1 (rows X j)⟩

theorem storedPieces_value (X : Vec F S4096x1024 .f32) : ∀ p ∈ storedPieces X, ∀ y : p.1.shape.Idx, p.2 y = partials X (p.1.emb y) := by
  intro p hp y
  obtain ⟨j, -, rfl⟩ := List.mem_map.mp hp
  refine (partials_at X j y _ ?_ ?_).symm
  · exact (Nat.zero_add _).trans (Nat.one_mul _)
  · exact congrArg (512 * j.val + ·) (Nat.one_mul _)

/-- The eight stores leave the sums of all rows. -/
theorem stored (X : Vec F S4096x1024 .f32) (d : Vec F S2x4096 .f32) :
    (Memref.whole cc0_stg0_0 : Memref sig .tc .vmem S2x4096 .f32).view.writes (Elt F) d (storedPieces X) = partials X :=
by
  have h := funext fun i => View.read_writes_apply_of_pieces (Memref.whole cc0_stg0_0 : Memref sig .tc .vmem S2x4096 .f32).view d (partials X)
    (storedPieces X) (storedPieces_value X) i ⟨_, List.mem_map_of_mem (mem_order (blockOf i)), mem_outRect i⟩
  generalize View.writes _ _ _ _ = w at h ⊢
  exact h

set_option maxHeartbeats 4000000 in
theorem sums (c : Dev nD) (X : Vec F S4096x1024 .f32) (g : Vec F S4096x1024 .f32) (d : Vec F S2x4096 .f32) (O : CellTallies nD τ sig Bool) (W : Waits sig Bool)
    (Q : PUnit → sProp 𝕄) :
    iprop(owes (c : Thread nD τ) O W ∗ Transfers.MayWaits (c : Thread nD τ) false O
        ∗ (((Memref.whole main_arg0).view.loc (c : Thread nD τ)) ↦{fullShare} X) ∗ (((Memref.whole cc0_stg0_0).view.loc (c : Thread nD τ)) ↦{fullShare} d)
        ∗ (((Memref.whole cc0_scratch0).view.loc (c : Thread nD τ)) ↦{fullShare} g)
        ∗ semVal ((c : Thread nD τ), SemLoc.dma (inSem 0)) 0 ∗ semVal ((c : Thread nD τ), SemLoc.dma (inSem 1)) 0
        ∗ semVal ((c : Thread nD τ), SemLoc.dma (inSem 2)) 0 ∗ semVal ((c : Thread nD τ), SemLoc.dma (inSem 3)) 0
        ∗ semVal ((c : Thread nD τ), SemLoc.dma (inSem 4)) 0 ∗ semVal ((c : Thread nD τ), SemLoc.dma (inSem 5)) 0
        ∗ semVal ((c : Thread nD τ), SemLoc.dma (inSem 6)) 0 ∗ semVal ((c : Thread nD τ), SemLoc.dma (inSem 7)) 0)
      ⊢ iprop(((∃ W, owes (c : Thread nD τ) O W)
        ∗ (((Memref.whole main_arg0).view.loc (c : Thread nD τ)) ↦{fullShare} X) ∗ (((Memref.whole cc0_stg0_0).view.loc (c : Thread nD τ)) ↦{fullShare} partials X)
        ∗ (∃ g, ((Memref.whole cc0_scratch0).view.loc (c : Thread nD τ)) ↦{fullShare} g)
        ∗ semVal ((c : Thread nD τ), SemLoc.dma (inSem 0)) 0 ∗ semVal ((c : Thread nD τ), SemLoc.dma (inSem 1)) 0
        ∗ semVal ((c : Thread nD τ), SemLoc.dma (inSem 2)) 0 ∗ semVal ((c : Thread nD τ), SemLoc.dma (inSem 3)) 0
        ∗ semVal ((c : Thread nD τ), SemLoc.dma (inSem 4)) 0 ∗ semVal ((c : Thread nD τ), SemLoc.dma (inSem 5)) 0
        ∗ semVal ((c : Thread nD τ), SemLoc.dma (inSem 6)) 0 ∗ semVal ((c : Thread nD τ), SemLoc.dma (inSem 7)) 0 -∗ Q ⟨⟩)
        -∗ wp frame (wpE (defs₀ (F := F)) 𝒱₀ (c : Thread nD τ) none) Set.univ
          (cc0_body (Memref.whole main_arg0) (Memref.isWhole_whole _) (Memref.whole cc0_stg0_0) (Memref.isWhole_whole _) (Memref.whole cc0_scratch0) (Memref.isWhole_whole _) cc0_scratch1) Q) := by
  rw [cc0_body_eq_skeleton]
  unfold cc0_body_skel
  rw [k0_part1_eq_skeleton, k0_part2_eq_skeleton, k0_part3_eq_skeleton, k0_part4_eq_skeleton]
  unfold k0_part1_skel k0_part2_skel k0_part3_skel k0_part4_skel
  iintro ⟨HO, #HMW, HX, HP, HS, H0, H1, H2, H3, H4, H5, H6, H7⟩ Hk
  set_option sl_exec.dmaWindow true in
  sl_exec
  sl_step
  iapply Hk
  isplitl [HO]; · iexists _; iexact HO
  isplitl [HX]; · iexact HX
  isplitl [HP]
  · have h36 : sums.sl.v36 X = rows X 0 := landed X 0
    have h48 : sums.sl.v48 X = rows X 1 := landed X 1
    have h60 : sums.sl.v60 X = rows X 2 := landed X 2
    have h72 : sums.sl.v72 X = rows X 3 := landed X 3
    have h84 : sums.sl.v84 X = rows X 4 := landed X 4
    have h96 : sums.sl.v96 X = rows X 5 := landed X 5
    have h108 : sums.sl.v108 X = rows X 6 := landed X 6
    have h120 : sums.sl.v120 X = rows X 7 := landed X 7
    rw [h36, h48, h60, h72, h84, h96, h108, h120]
    iapply (Entails.of_eq (congrArg (fun f => (((Memref.whole cc0_stg0_0).view.loc (c : Thread nD τ) ↦{fullShare} f) : sProp 𝕄)) (stored X d)))
    iexact HP
  isplitl [HS]; · iexists _; iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Norm

end
-- ==== Proof.Data.lean ====
/-
  What each device's arrays hold between the calls, and the data of the three calls at those contents.
-/
module

public import proofs.«01_k».proof.Proof.Third
public import proofs.«01_k».proof.Proof.Exchange
public import proofs.«01_k».proof.Proof.Partials
public import proofs.«01_k».proof.Proof.Gen.KernelIdeal.Regions
public import Idealize.ShloMosaic.Lib.Pipeline.RegionTalk
public import Idealize.ShloMosaic.Lib.Pipeline.RegionArraysD
public import Idealize.ShloMosaic.Lib.Pipeline.RegionArraysS

@[expose] public section

noncomputable section

namespace Cert.KernelIdeal.Norm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (Dat BodyObligation)
open Cert.KernelIdeal.Gen

variable {F : FTy → Type} [FloatOps F]

local notation "𝕄" => MT nD τ sig Bool (Elt F) ℕ UU ℕ

variable (m : (ℓ : Loc nD τ sig) → Buf (Elt F) ℓ)

/-! ## The contents -/

/-- Device `c`'s sums. -/
abbrev sumsOf (c : Dev nD) : Vec F S2x4096 .f32 := partials (m ((c : Thread nD τ).loc main_arg0))
/-- The means and reciprocal deviations of all rows, the same on every device. -/
abbrev statsOf : Vec F S4096x2 .f32 := stats (gath (sumsOf m))
/-- Device `c`'s columns of the result. -/
abbrev layerOf (c : Dev nD) : Vec F S4096x1024 .f32 :=
  layer (m ((c : Thread nD τ).loc main_arg0)) (statsOf m) (m ((c : Thread nD τ).loc main_arg1)) (m ((c : Thread nD τ).loc main_arg2))

/-- The arrays at launch, and after each of the three calls. -/
abbrev W0 (c : Dev nD) : Valuation τ sig (Elt F) := fun b => m (c, b)
abbrev W1 (c : Dev nD) : Valuation τ sig (Elt F) := Function.update (W0 m c) main_v1 (sumsOf m c)
abbrev W2 (c : Dev nD) : Valuation τ sig (Elt F) := Function.update (W1 m c) main_v2 (statsOf m)
abbrev W3 (c : Dev nD) : Valuation τ sig (Elt F) := Function.update (W2 m c) main_v3 (layerOf m c)

theorem W1_v1 (c : Dev nD) : W1 m c main_v1 = sumsOf m c := Function.update_self _ _ _
theorem W2_v2 (c : Dev nD) : W2 m c main_v2 = statsOf m := Function.update_self _ _ _
theorem W3_v3 (c : Dev nD) : W3 m c main_v3 = layerOf m c := Function.update_self _ _ _
theorem W1_of (c : Dev nD) (r : Ref sig .tc) (h : r ≠ main_v1) : W1 m c r = m ((c : Thread nD τ).loc r) :=
  Function.update_of_ne (StableHlo.devRef_ne_of_ne h) _ _
theorem W2_of (c : Dev nD) (r : Ref sig .tc) (h : r ≠ main_v2) : W2 m c r = W1 m c r :=
  Function.update_of_ne (StableHlo.devRef_ne_of_ne h) _ _
theorem W3_of (c : Dev nD) (r : Ref sig .tc) (h : r ≠ main_v3) : W3 m c r = W2 m c r :=
  Function.update_of_ne (StableHlo.devRef_ne_of_ne h) _ _
theorem W3_arg (c : Dev nD) (r : Ref sig .tc) (h1 : r ≠ main_v1) (h2 : r ≠ main_v2) (h3 : r ≠ main_v3) : W3 m c r = m ((c : Thread nD τ).loc r) :=
  (W3_of m c r h3).trans ((W2_of m c r h2).trans (W1_of m c r h1))

/-! ## The first call -/

/-- The semaphores of the first call's own copies. -/
def osem0 (k : Fin 8) : SemLoc sig := .dma (inSem k)

/-- Between the first call's ends: its other scoped buffers, its own semaphores at zero, and the rows it reads. -/
def Φ0 (c : Dev nD) : sProp 𝕄 :=
  iprop(Pipeline.scopedRest (Ix := Bool) (Name := ℕ) (U := UU) (Lvl := ℕ) (Val := Elt F) spec0 c ∗ (∃ r, prngReg c r) ∗ Pipeline.ownSems0 osem0 c
    ∗ (bigSep {main_arg0} fun b => ((c.tc : Thread nD τ).loc b) ↦{fullShare} W0 m c (Proc.devRef .tc b)) ∗ Transfers.MayWaits (c : Thread nD τ) false (O₀ c))

def dat0 (c : Dev nD) : Dat τ (Elt F) Bool ℕ UU ℕ cfg0 c where
  A w := match w with
    | ⟨0, _⟩ => m ((c : Thread nD τ).loc main_v1)
  after w _ := match w with
    | ⟨0, _⟩ => sumsOf m c
  Φ _ := Φ0 m c
  q _ := fullShare
  owed _ := O₀ c

theorem ownSems0_8 (c : Dev nD) : (Pipeline.ownSems0 osem0 c : sProp 𝕄) = iprop(semVal ((c : Thread nD τ), SemLoc.dma (inSem 0)) 0 ∗ semVal ((c : Thread nD τ), SemLoc.dma (inSem 1)) 0
        ∗ semVal ((c : Thread nD τ), SemLoc.dma (inSem 2)) 0 ∗ semVal ((c : Thread nD τ), SemLoc.dma (inSem 3)) 0
        ∗ semVal ((c : Thread nD τ), SemLoc.dma (inSem 4)) 0 ∗ semVal ((c : Thread nD τ), SemLoc.dma (inSem 5)) 0
        ∗ semVal ((c : Thread nD τ), SemLoc.dma (inSem 6)) 0 ∗ semVal ((c : Thread nD τ), SemLoc.dma (inSem 7)) 0) := by
  unfold Pipeline.ownSems0
  rw [bigSep_univ_eq_bigSepL [0, 1, 2, 3, 4, 5, 6, 7] (by decide) (by decide)]
  rfl

theorem body0 (c : Dev nD) : BodyObligation (dat0 m c) (defs₀ (F := F)) 𝒱₀ false Set.univ := fun t => by
  obtain rfl := fin_N0 t
  rw [bigSep_W0, bigSep_W0]
  simp only [owns_whole_eq]
  rw [show (dat0 m c).Φ t0_0.castSucc = Φ0 m c from rfl, show (dat0 m c).Φ t0_0.succ = Φ0 m c from rfl]
  unfold Φ0
  rw [scopedRest0_eq, ownSems0_8, bigSep_singleton]
  unfold Dat.owesAt Pipeline.owesWithin Dat.bound
  iintro ⟨⟨⟨⟨%g, Hg⟩, Hrest⟩, Hp, ⟨S0, S1, S2, S3, S4, S5, S6, S7⟩, HX, #HMW⟩, ⟨%W, %hW, HO⟩, ⟨%d0, %f0, %hf0, H0⟩⟩
  iapply (sums (F := F) c (m ((c : Thread nD τ).loc main_arg0)) g f0 (O₀ c) W _) $$ [HO HX H0 Hg S0 S1 S2 S3 S4 S5 S6 S7]
  · isplitl [HO]; · iexact HO
    isplitr; · iexact HMW
    isplitl [HX]; · iexact HX
    isplitl [H0]; · iexact H0
    isplitl [Hg]; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iintro ⟨⟨%W', HO⟩, HX, H0, ⟨%g', Hg⟩, HS⟩
  isplitl [Hg Hrest Hp HS HX]
  · isplitl [Hg Hrest]; · isplitl [Hg]; · iexists g'; iexact Hg
                          iexact Hrest
    isplitl [Hp]; · iexact Hp
    isplitl [HS]; · iexact HS
    isplitl [HX]; · iexact HX
    iexact HMW
  isplitl [HO]
  · iexists W'
    isplitr; · ipureintro; exact fun _ _ => Or.inl trivial
    iexact HO
  iexists _
  isplitr
  swap; · iexact H0
  ipureintro
  dsimp only [dat0]

end Cert.KernelIdeal.Norm

end
-- ==== Proof.Second.lean ====
/-
  The second call on one device: opening its semaphores, the exchange, closing them.
-/
module

public import proofs.«01_k».proof.Proof.Data

@[expose] public section

noncomputable section

namespace Cert.KernelIdeal.Norm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (Dat BodyObligation)
open Cert.KernelIdeal.Gen

variable {F : FTy → Type} [FloatOps F]

local notation "𝕄" => MT nD τ sig Bool (Elt F) ℕ UU ℕ

variable (m : (ℓ : Loc nD τ sig) → Buf (Elt F) ℓ)

/-- One update per index, under a shared persistent assertion. -/
theorem bigSep_update {I : Type} (s : Finset I) {R : sProp 𝕄} [BI.Persistent R] {Φ Ψ : I → sProp 𝕄} (h : ∀ i, iprop(R ∗ Φ i) ⊢ |={Set.univ}=> Ψ i) :
    iprop(R ∗ bigSep s Φ) ⊢ |={Set.univ}=> bigSep s Ψ := by
  classical
  induction s using Finset.induction_on with
  | empty =>
    rw [bigSep_empty, bigSep_empty]
    iintro ⟨-, -⟩
    imodintro
    iempintro
  | insert i s hi ih =>
    rw [bigSep_insert hi, bigSep_insert hi]
    show iprop(R ∗ (Φ i ∗ bigSep s Φ)) ⊢ iprop(|={Set.univ}=> (Ψ i ∗ bigSep s Ψ))
    iintro ⟨#HR, Hi, Hs⟩
    imod (h i) $$ [Hi] with Hi
    · isplitr; · iexact HR
      iexact Hi
    imod ih $$ [Hs] with Hs
    · isplitr; · iexact HR
      iexact Hs
    imodintro
    isplitl [Hi]; · iexact Hi
    iexact Hs

/-- The semaphores of the second call's own copies: one to receive from each device, one per copy sent. -/
def osem1 : Fin 8 ⊕ Fin 7 → SemLoc sig
  | .inl s => .dma (recvSem s)
  | .inr i => .dma (sendSem i)

theorem ownSems1_eq (c : Dev nD) : (Pipeline.ownSems0 osem1 c : sProp 𝕄)
    = iprop((semVal (recvCell c c) 0 ∗ bigSep Finset.univ fun i : Fin 7 => semVal (recvCell c (pr c i)) 0) ∗ bigSep Finset.univ fun i : Fin 7 => semVal (sendCell c i) 0) := by
  unfold Pipeline.ownSems0
  rw [bigSep_univ_sum]
  exact congrArg₂ BI.sep (bigSep_dev c fun s => (semVal (recvCell c s) 0 : sProp 𝕄)) rfl

/-- The rights to open the seven pairs of semaphores. -/
def unopened (c : Dev nD) (i : Fin 7) : sProp 𝕄 := iprop(openTok EB (recvCell c (pr c i)) ∗ openTok EB (sendCell c i))

theorem open_pair (G : Gathered F) (κ : GSem nD τ sig → ℕ) (c : Dev nD) (i : Fin 7) :
    iprop(records G κ ∗ (unopened c i ∗ semVal (recvCell c (pr c i)) 0 ∗ semVal (sendCell c i) 0)) ⊢ (|={Set.univ}=> opened c i : sProp 𝕄) := by
  unfold unopened opened
  iintro ⟨#HR, ⟨HoR, HoS⟩, HvR, HvS⟩
  imod (Rounds.cell_open EB (rd G) (g := recvCell c (pr c i)) (Set.mem_univ (κ (recvCell c (pr c i))))) $$ [HoR HvR] with HR'
  · isplitr; · iapply (records_inv G κ (recv_mem c i)); iexact HR
    isplitl [HoR] <;> iassumption
  imod (Rounds.cell_open EB (rd G) (g := sendCell c i) (Set.mem_univ (κ (sendCell c i)))) $$ [HoS HvS] with HS'
  · isplitr; · iapply (records_inv G κ (send_mem c i)); iexact HR
    isplitl [HoS] <;> iassumption
  imodintro
  isplitl [HR']; · iexact HR'
  iexact HS'

theorem close_pair (G : Gathered F) (κ : GSem nD τ sig → ℕ) (c : Dev nD) (i : Fin 7) :
    iprop(records G κ ∗ passed c i) ⊢ (|={Set.univ}=> iprop(semVal (recvCell c (pr c i)) 0 ∗ semVal (sendCell c i) 0) : sProp 𝕄) := by
  unfold passed
  iintro ⟨#HR, HaR, HaS⟩
  imod (Rounds.cell_close EB (rd G) (Set.mem_univ (κ (recvCell c (pr c i)))) (fun h => h) (R := 1) (duties_later G (recvCell c (pr c i)))) $$ [HaR] with HvR
  · isplitr; · iapply (records_inv G κ (recv_mem c i)); iexact HR
    iexact HaR
  imod (Rounds.cell_close EB (rd G) (Set.mem_univ (κ (sendCell c i))) (fun h => h) (R := 1) (duties_later G (sendCell c i))) $$ [HaS] with HvS
  · isplitr; · iapply (records_inv G κ (send_mem c i)); iexact HR
    iexact HaS
  imodintro
  isplitl [HvR]; · iexact HvR
  iexact HvS

/-- What the launch keeps for the second call. -/
def Tk (c : Dev nD) : sProp 𝕄 :=
  iprop((∃ κ, records (gath (sumsOf m)) κ) ∗ atPos EB (barCell c) 0 ∅ 0 ∗ credits c ∗ bigSep Finset.univ (unopened (F := F) c) ∗ bigSep Finset.univ (tokens (F := F) c))

/-- With the semaphores opened. -/
def Xk (c : Dev nD) : sProp 𝕄 :=
  iprop((∃ κ, records (gath (sumsOf m)) κ) ∗ levAts L lv ∗ semVal (recvCell c c) 0 ∗ atPos EB (barCell c) 0 ∅ 0 ∗ credits c
    ∗ bigSep Finset.univ (opened (F := F) c) ∗ bigSep Finset.univ (tokens (F := F) c))

theorem hopen (c : Dev nD) : iprop(Tk m c ∗ Pipeline.ownSems0 osem1 c ∗ levAts L lv) ⊢ (|={Set.univ}=> Xk m c : sProp 𝕄) := by
  rw [ownSems1_eq]
  unfold Tk Xk
  iintro ⟨⟨⟨%κ, #HR⟩, HaB, Hcr, Ho, Ht⟩, ⟨⟨Hself, HvR⟩, HvS⟩, #Hlev⟩
  imod (bigSep_update Finset.univ (open_pair (gath (sumsOf m)) κ c)) $$ [Ho HvR HvS] with Hop
  · isplitr; · iexact HR
    rw [bigSep_sep', bigSep_sep']
    isplitl [Ho]; · iexact Ho
    isplitl [HvR] <;> iassumption
  imodintro
  isplitr; · iexists κ; iexact HR
  isplitr; · iexact Hlev
  isplitl [Hself]; · iexact Hself
  isplitl [HaB]; · iexact HaB
  isplitl [Hcr]; · iexact Hcr
  isplitl [Hop] <;> iassumption

/-- Before the second call's body, and after it. -/
def Φin (c : Dev nD) : sProp 𝕄 :=
  iprop(Pipeline.scopedRest (Ix := Bool) (Name := ℕ) (U := UU) (Lvl := ℕ) (Val := Elt F) spec1 c ∗ (∃ r, prngReg c r) ∗ Xk m c)
def Φout (c : Dev nD) : sProp 𝕄 :=
  iprop(Pipeline.scopedRest (Ix := Bool) (Name := ℕ) (U := UU) (Lvl := ℕ) (Val := Elt F) spec1 c ∗ (∃ r, prngReg c r) ∗ Pipeline.ownSems0 osem1 c ∗ semVal (barCell c) 0)

def dat1 (c : Dev nD) : Dat τ (Elt F) Bool ℕ UU ℕ cfg1 c where
  A w := match w with
    | ⟨0, _⟩ => sumsOf m c
    | ⟨1, _⟩ => m ((c : Thread nD τ).loc main_v2)
  after w _ := match w with
    | ⟨0, _⟩ => sumsOf m c
    | ⟨1, _⟩ => statsOf m
  Φ k := if k.val = 0 then Φin m c else Φout c
  q _ := fullShare
  owed k := if k.val = 0 then O₀ c else 0

theorem index1_0 : ∀ (t : Fin cfg1.N) (a : Fin 2), win1_0.index t a = 0 :=
  (by decide +kernel : ∀ (t : Fin grid1.N) (a : Fin 2), win1_0.index t a = 0)
theorem index1_1 : ∀ (t : Fin cfg1.N) (a : Fin 2), win1_1.index t a = 0 :=
  (by decide +kernel : ∀ (t : Fin grid1.N) (a : Fin 2), win1_1.index t a = 0)

/-- The one block of the sums is the whole array. -/
theorem blk1_0 (c : Dev nD) (t : Fin cfg1.N) : (dat1 m c).blockOf 0 t = sumsOf m c :=
  funext fun i => congrArg (sumsOf m c) (funext fun a => Fin.ext (Pipeline.Window.rect_emb_val_of_index_zero win1_0 t a (index1_0 t a) i))

theorem before1_0 (c : Dev nD) (d) : (dat1 m c).before 0 t1_0 d = sumsOf m c := by
  unfold Dat.before; rw [if_pos (fetch1_0 _)]; exact blk1_0 m c t1_0

theorem body1 (c : Dev nD) : BodyObligation (dat1 m c) (defs₀ (F := F)) 𝒱₀ false Set.univ := fun t => by
  obtain rfl := fin_N1 t
  rw [bigSep_W1, bigSep_W1]
  simp only [owns_whole_eq]
  rw [show (dat1 m c).Φ t1_0.castSucc = Φin m c from rfl, show (dat1 m c).Φ t1_0.succ = Φout c from rfl]
  unfold Φin Φout Xk
  rw [scopedRest1_eq, ownSems1_eq]
  unfold Dat.owesAt Pipeline.owesWithin Dat.bound
  rw [show (dat1 m c).owed t1_0.castSucc = O₀ c from rfl, show (dat1 m c).owed t1_0.succ = 0 from rfl]
  iintro ⟨⟨⟨Hg0, Hg1, ⟨%g, Hg⟩, Hrest⟩, Hp, ⟨%κ, #HR⟩, #Hlev, Hself, HaB, Hcr, Hop, Ht⟩, ⟨%W, %hW, HO⟩, ⟨%d0, %f0, %hf0, H0⟩, ⟨%d1, %f1, %hf1, H1⟩⟩
  rw [before1_0] at hf0
  subst hf0
  iapply (wp_fupd frame (wpE (defs₀ (F := F)) 𝒱₀ (c : Thread nD τ) none) Set.univ _ _)
  iapply (exchange (F := F) (sumsOf m) κ c W f1 g _) $$ [HO Hcr HaB Hop Ht H0 H1 Hg]
  · isplitr; · iexact HR
    isplitr; · iexact Hlev
    isplitl [HO]; · iexact HO
    isplitl [Hcr]; · iexact Hcr
    isplitl [HaB]; · iexact HaB
    isplitl [Hop]; · iexact Hop
    isplitl [Ht]; · iexact Ht
    isplitl [H0]; · iexact H0
    isplitl [H1]; · iexact H1
    iexact Hg
  iintro ⟨⟨%W', HO⟩, HaB, Hpass, H0, H1, Hg⟩
  imod (bigSep_update Finset.univ (close_pair (gath (sumsOf m)) κ c)) $$ [Hpass] with Hv
  · isplitr; · iexact HR
    iexact Hpass
  imod (Rounds.cell_close EB (rd (gath (sumsOf m))) (Set.mem_univ (κ (barCell c))) (fun h => h) (R := 1) (duties_later (gath (sumsOf m)) (barCell c))) $$ [HaB] with HvB
  · isplitr; · iapply (records_inv (gath (sumsOf m)) κ (bar_mem c)); iexact HR
    iexact HaB
  imodintro
  ihave Hv := (Entails.of_eq (bigSep_sep' _ _ _)) $$ Hv
  icases Hv with ⟨HvR, HvS⟩
  isplitl [Hg0 Hg1 Hg Hrest Hp Hself HvR HvS HvB]
  · isplitl [Hg0 Hg1 Hg Hrest]
    · isplitl [Hg0]; · iexact Hg0
      isplitl [Hg1]; · iexact Hg1
      isplitl [Hg]; · iexists _; iexact Hg
      iexact Hrest
    isplitl [Hp]; · iexact Hp
    isplitl [Hself HvR HvS]
    · isplitl [Hself HvR]; · isplitl [Hself] <;> iassumption
      iexact HvS
    iexact HvB
  isplitl [HO]
  · iexists W'
    isplitr; · ipureintro; exact fun _ _ => Or.inl trivial
    iexact HO
  isplitl [H0]
  · iexists _
    isplitr
    swap; · iexact H0
    ipureintro
    dsimp only [dat1]
  iexists _
  isplitr
  swap; · iexact H1
  ipureintro
  dsimp only [dat1]

/-- The means and reciprocal deviations in their array. -/
theorem final1 (c : Dev nD) : (dat1 m c).arrAt 1 cfg1.N = statsOf m :=
  (dat1 m c).arrAt_eq_of_cover 1 (statsOf m)
    (fun t _ => funext fun i => (congrArg (statsOf m) (funext fun a => Fin.ext (Pipeline.Window.rect_emb_val_of_index_zero win1_1 t a (index1_1 t a) i))).symm)
    fun i => ⟨t1_0, flush1_1 _, by
      have hs : ((View.whole main_v2).slice (win1_1.rect t1_0)).set = (win1_1.rect t1_0).set := View.set_slice_whole _ _
      have h : (win1_1.rect t1_0).emb i = i := funext fun a => Fin.ext (Pipeline.Window.rect_emb_val_of_index_zero win1_1 t1_0 a (index1_1 t1_0 a) i)
      show i ∈ ((View.whole main_v2).slice (win1_1.rect t1_0)).set
      rw [hs, ← h]
      exact emb_mem _ _⟩

theorem index0_0 : ∀ (t : Fin cfg0.N) (a : Fin 2), win0_0.index t a = 0 :=
  (by decide +kernel : ∀ (t : Fin grid0.N) (a : Fin 2), win0_0.index t a = 0)

/-- The sums in their array. -/
theorem final0 (c : Dev nD) : (dat0 m c).arrAt 0 cfg0.N = sumsOf m c :=
  (dat0 m c).arrAt_eq_of_cover 0 (sumsOf m c)
    (fun t _ => funext fun i => (congrArg (sumsOf m c) (funext fun a => Fin.ext (Pipeline.Window.rect_emb_val_of_index_zero win0_0 t a (index0_0 t a) i))).symm)
    fun i => ⟨t0_0, flush0_0 _, by
      have hs : ((View.whole main_v1).slice (win0_0.rect t0_0)).set = (win0_0.rect t0_0).set := View.set_slice_whole _ _
      have h : (win0_0.rect t0_0).emb i = i := funext fun a => Fin.ext (Pipeline.Window.rect_emb_val_of_index_zero win0_0 t0_0 a (index0_0 t0_0 a) i)
      show i ∈ ((View.whole main_v1).slice (win0_0.rect t0_0)).set
      rw [hs, ← h]
      exact emb_mem _ _⟩

end Cert.KernelIdeal.Norm

end
-- ==== Proof.Calls.lean ====
/-
  The three calls as regions of one program: what each is entered from and left with.
-/
module

public import proofs.«01_k».proof.Proof.Second

@[expose] public section

noncomputable section

namespace Cert.KernelIdeal.Norm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (Dat BodyObligation)
open Cert.KernelIdeal.Gen

variable {F : FTy → Type} [FloatOps F]

local notation "𝕄" => MT nD τ sig Bool (Elt F) ℕ UU ℕ

variable (m : (ℓ : Loc nD τ sig) → Buf (Elt F) ℓ)

/-- The three calls' data at the contents the earlier ones leave. -/
def pdats : (p : Fin 3) → (c : Dev nD) → Dat τ (Elt F) Bool ℕ UU ℕ (cfgs p) c
  | ⟨0, _⟩ => dat0 m
  | ⟨1, _⟩ => dat1 m
  | ⟨2, _⟩ => fun c => dat2 (m ((c : Thread nD τ).loc main_arg0)) (statsOf m) (m ((c : Thread nD τ).loc main_arg1)) (m ((c : Thread nD τ).loc main_arg2))
      (m ((c : Thread nD τ).loc main_v3)) c

local notation "ℝ𝕊" => Pipeline.RegionSeg (pcfgs (F := F)) adm (pdats m) false defs₀ 𝒱₀ L lv

/-- The arrays a call pipelines, and the others. -/
abbrev own0 : Finset (DevRef τ sig) := Pipeline.arrRefs (τ := τ) spec0
abbrev own1 : Finset (DevRef τ sig) := Pipeline.arrRefs (τ := τ) spec1
abbrev own2 : Finset (DevRef τ sig) := Pipeline.arrRefs (τ := τ) spec2

theorem own0_sub : own0 ⊆ Pipeline.ucRefs τ sig := by decide
theorem own1_sub : own1 ⊆ Pipeline.ucRefs τ sig := by decide
theorem own2_sub : own2 ⊆ Pipeline.ucRefs τ sig := by decide

/-- An array among those held elsewhere may change without notice. -/
theorem held_update (c : Dev nD) (S T : Finset (DevRef τ sig)) (W : Valuation τ sig (Elt F)) (r : Ref sig .tc) (v : Buf (Elt F) ((c : Thread nD τ).loc r))
    (hr : Proc.devRef .tc r ∈ T) :
    (StableHlo.held (c : Thread nD τ) (S \ T) (Function.update W (Proc.devRef .tc r) v) : sProp 𝕄) = StableHlo.held (c : Thread nD τ) (S \ T) W :=
  StableHlo.held_congr _ fun b hb => Function.update_of_ne (fun h => (Finset.mem_sdiff.mp hb).2 (by rw [show b = Proc.devRef .tc r from h]; exact hr)) _ _

/-- A local wait is allowed whatever is owed. -/
theorem mayWaits_low (c : Dev nD) : (levAts L lv : sProp 𝕄) ⊢ Transfers.MayWaits (c : Thread nD τ) false (O₀ c) :=
  Transfers.MayWaits.intro fun sm => MayOwe.of_cut (L := L) (lev := lv) 0 (fun p hp => by rw [Finset.mem_singleton.mp hp]; exact mem_L_tc _ _ _)
    (fun g b hg => (O₀_cut hg).1) (fun p hp => by rw [Finset.mem_singleton.mp hp]; exact le_refl 0) (fun g b hg => (O₀_cut hg).2)

set_option backward.isDefEq.respectTransparency.types false in
def reg0 : ℝ𝕊 0 :=
  Pipeline.RegionSeg.ofHeldDH (pcfgs (F := F)) adm (pdats m) false defs₀ 𝒱₀ L lv 0 O₀ false osem0 (by decide : Pipeline.OwnSemFacts spec0 osem0)
    {main_arg0} (Pipeline.ucRefs τ sig \ own0) (by decide : Pipeline.hbmRefs (τ := τ) {main_arg0} ⊆ Pipeline.ucRefs τ sig \ own0) launch0.toP rfl (fun c => (body0 m c).loose)
    (fun _ _ => rfl) (fun _ => rfl) (fun c w => match w with | ⟨0, _⟩ => rfl) (mayWaits_low (F := F))
    (W0 m) (W1 m) (fun _ => .rfl)
    (fun c => by
      show Φ0 m c ⊢ _
      unfold Φ0
      iintro ⟨H1, H2, H3, H4, -⟩
      isplitl [H1]; · iexact H1
      isplitl [H2]; · iexact H2
      isplitl [H3]; · iexact H3
      iexact H4)
    (fun _ => 0) ⟨fun c w s => mem_L_tc _ _ _, fun c w s => le_refl 0, fun c g i h => O₀_cut h⟩
    (fun c => Tk m c)
    (fun c w => match w with | ⟨0, _⟩ => rfl)
    (fun c w => match w with | ⟨0, _⟩ => (final0 m c).trans (W1_v1 m c).symm)

set_option backward.isDefEq.respectTransparency.types false in
def reg1 : ℝ𝕊 1 :=
  Pipeline.RegionSeg.ofTalk (pcfgs (F := F)) adm (pdats m) false defs₀ 𝒱₀ L lv 1 osem1 (by decide : Pipeline.OwnSemFacts spec1 osem1)
    ∅ (Pipeline.ucRefs τ sig \ own1) (Finset.empty_subset _) launch1.toP rfl (fun c => (body1 m c).loose)
    (fun _ => 0) O₀ (fun c => (zero_add (O₀ c)).symm) (fun _ => rfl) (fun _ => rfl) (fun c w => match w with | ⟨0, _⟩ => rfl | ⟨1, _⟩ => rfl)
    (W1 m) (W2 m)
    (fun c b hb => Function.update_of_ne (fun h => (Finset.mem_sdiff.mp (Finset.mem_sdiff.mp hb).1).2 (show b ∈ own1 from (show b = Proc.devRef .tc main_v2 from h).symm ▸ (by decide : Proc.devRef .tc main_v2 ∈ own1))) _ _)
    (Tk m) (fun c => semVal (barCell c) 0) (Xk m) (fun c => semVal (barCell c) 0) (hopen m)
    (fun c => by
      show _ ⊢ Φin m c
      unfold Φin
      iintro ⟨H1, H2, -, H4⟩
      isplitl [H1]; · iexact H1
      isplitl [H2]; · iexact H2
      iexact H4)
    (fun c => by
      show Φout c ⊢ _
      unfold Φout StableHlo.held
      rw [bigSep_empty]
      iintro ⟨H1, H2, H3, H4⟩
      isplitl [H1]; · iexact H1
      isplitl [H2]; · iexact H2
      isplitr; · iempintro
      isplitl [H3]; · iexact H3
      iexact H4)
    (fun c => by iintro H; imodintro; iexact H)
    (fun _ => 0)
    ⟨fun c w s => mem_L_tc _ _ _, fun c w s => le_refl 0, fun c t g i h => by
      have h2 : 0 < (dat1 m c).owed t g i := h
      unfold dat1 at h2
      dsimp only at h2
      split at h2
      · exact O₀_cut h2
      · exact absurd h2 (Nat.lt_irrefl 0)⟩
    (fun _ => iprop(emp))
    (fun c w => match w with | ⟨0, _⟩ => (W1_v1 m c).symm | ⟨1, _⟩ => (W1_of m c main_v2 (by decide)).symm)
    (fun c w => match w with
      | ⟨0, _⟩ => ((dat1 m c).arrAt_in _ rfl _).trans ((W1_v1 m c).symm.trans (W2_of m c main_v1 (by decide)).symm)
      | ⟨1, _⟩ => (final1 m c).trans (W2_v2 m c).symm)

set_option backward.isDefEq.respectTransparency.types false in
def reg2 : ℝ𝕊 2 :=
  Pipeline.RegionSeg.ofHeld (pcfgs (F := F)) adm (pdats m) false defs₀ 𝒱₀ L lv 2 (fun _ => 0) (fun _ => iprop(emp)) (fun _ => iprop(emp)) launch2.toP rfl
    (fun c => (body2 _ _ _ _ _ c).loose)
    (fun _ _ => rfl) (fun _ => rfl) (fun c w => match w with | ⟨0, _⟩ => rfl | ⟨1, _⟩ => rfl | ⟨2, _⟩ => rfl | ⟨3, _⟩ => rfl | ⟨4, _⟩ => rfl)
    (fun c => by
      show iprop(Pipeline.scopedRest spec2 c ∗ emp) ⊢ Pipeline.scopedRest spec2 c
      iintro ⟨H, -⟩
      iexact H)
    (fun c => by
      show Pipeline.scopedRest spec2 c ⊢ iprop(Pipeline.scopedRest spec2 c ∗ emp)
      iintro H
      isplitl [H]; · iexact H
      iempintro)
    (fun _ => 0) ⟨fun c w s => mem_L_tc _ _ _, fun c w s => le_refl 0, fun c g i h => absurd h (Nat.lt_irrefl 0)⟩
    (fun c => iprop(StableHlo.held (c : Thread nD τ) (Pipeline.ucRefs τ sig \ own2) (W2 m c) ∗ semVal (barCell c) 0))
    (W2 m) (W3 m)
    (fun c w => match w with
      | ⟨0, _⟩ => ((W2_of m c main_arg0 (by decide)).trans (W1_of m c main_arg0 (by decide))).symm
      | ⟨1, _⟩ => (W2_v2 m c).symm
      | ⟨2, _⟩ => ((W2_of m c main_arg1 (by decide)).trans (W1_of m c main_arg1 (by decide))).symm
      | ⟨3, _⟩ => ((W2_of m c main_arg2 (by decide)).trans (W1_of m c main_arg2 (by decide))).symm
      | ⟨4, _⟩ => ((W2_of m c main_v3 (by decide)).trans (W1_of m c main_v3 (by decide))).symm)
    (fun c w => match w with
      | ⟨0, _⟩ => ((pdats m 2 c).arrAt_in _ rfl _).trans (W3_arg m c main_arg0 (by decide) (by decide) (by decide)).symm
      | ⟨1, _⟩ => ((pdats m 2 c).arrAt_in _ rfl _).trans ((W2_v2 m c).symm.trans (W3_of m c main_v2 (by decide)).symm)
      | ⟨2, _⟩ => ((pdats m 2 c).arrAt_in _ rfl _).trans (W3_arg m c main_arg1 (by decide) (by decide) (by decide)).symm
      | ⟨3, _⟩ => ((pdats m 2 c).arrAt_in _ rfl _).trans (W3_arg m c main_arg2 (by decide) (by decide) (by decide)).symm
      | ⟨4, _⟩ => (final2 _ _ _ _ _ c).trans (W3_v3 m c).symm)

/-! ## Between the calls -/

/-- What a device holds before the first call, between the calls, and after the last. -/
def T0 (c : Dev nD) : sProp 𝕄 :=
  iprop(StableHlo.held (c : Thread nD τ) (Pipeline.ucRefs τ sig) (W0 m c) ∗ (∃ r, prngReg c r) ∗ Tk m c ∗ ∃ Wd, owes (c : Thread nD τ) (O₀ c) Wd)
def T1 (c : Dev nD) : sProp 𝕄 :=
  iprop(StableHlo.held (c : Thread nD τ) (Pipeline.ucRefs τ sig) (W1 m c) ∗ (∃ r, prngReg c r) ∗ Tk m c ∗ ∃ Wd, owes (c : Thread nD τ) (O₀ c) Wd)
def T2 (c : Dev nD) : sProp 𝕄 :=
  iprop(StableHlo.held (c : Thread nD τ) (Pipeline.ucRefs τ sig) (W2 m c) ∗ semVal (barCell c) 0 ∗ ∃ Wd, owes (c : Thread nD τ) (0 : CellTallies nD τ sig Bool) Wd)
def T3 (c : Dev nD) : sProp 𝕄 :=
  iprop(StableHlo.held (c : Thread nD τ) (Pipeline.ucRefs τ sig) (W3 m c) ∗ semVal (barCell c) 0)

theorem pre0 (c : Dev nD) : T0 m c ⊢ (reg0 m).pre c := by
  show _ ⊢ iprop(StableHlo.held (c : Thread nD τ) own0 (W0 m c) ∗ (∃ r, prngReg c r)
    ∗ (StableHlo.held (c : Thread nD τ) (Pipeline.ucRefs τ sig \ own0) (W0 m c) ∗ Tk m c) ∗ ∃ Wd, owes (c : Thread nD τ) (O₀ c) Wd)
  unfold T0
  rw [StableHlo.held_sub_split (c : Thread nD τ) own0_sub (W0 m c)]
  iintro ⟨⟨Ha, Hr⟩, Hp, HT, HO⟩
  isplitl [Ha]; · iexact Ha
  isplitl [Hp]; · iexact Hp
  isplitl [Hr HT]; · isplitl [Hr] <;> iassumption
  iexact HO

theorem post0 (c : Dev nD) : (reg0 m).post c ⊢ T1 m c := by
  show iprop(StableHlo.held (c : Thread nD τ) own0 (W1 m c) ∗ (∃ r, prngReg c r)
    ∗ (StableHlo.held (c : Thread nD τ) (Pipeline.ucRefs τ sig \ own0) (W0 m c) ∗ Tk m c) ∗ ∃ Wd, owes (c : Thread nD τ) (O₀ c) Wd) ⊢ _
  unfold T1
  rw [StableHlo.held_sub_split (c : Thread nD τ) own0_sub (W1 m c), held_update c _ own0 (W0 m c) main_v1 _ (by decide)]
  iintro ⟨Ha, Hp, ⟨Hr, HT⟩, HO⟩
  isplitl [Ha Hr]; · isplitl [Ha] <;> iassumption
  isplitl [Hp]; · iexact Hp
  isplitl [HT]; · iexact HT
  iexact HO

theorem pre1 (c : Dev nD) : T1 m c ⊢ (reg1 m).pre c := by
  show _ ⊢ iprop(StableHlo.held (c : Thread nD τ) own1 (W1 m c) ∗ (∃ r, prngReg c r)
    ∗ (StableHlo.held (c : Thread nD τ) (Pipeline.ucRefs τ sig \ own1) (W1 m c) ∗ emp) ∗ Tk m c ∗ ∃ Wd, owes (c : Thread nD τ) (0 + O₀ c) Wd)
  rw [zero_add]
  unfold T1
  rw [StableHlo.held_sub_split (c : Thread nD τ) own1_sub (W1 m c)]
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem post1 (c : Dev nD) : (reg1 m).post c ⊢ T2 m c := by
  show iprop(StableHlo.held (c : Thread nD τ) own1 (W2 m c) ∗ (∃ r, prngReg c r)
    ∗ (StableHlo.held (c : Thread nD τ) (Pipeline.ucRefs τ sig \ own1) (W2 m c) ∗ emp) ∗ semVal (barCell c) 0
    ∗ ∃ Wd, owes (c : Thread nD τ) (0 : CellTallies nD τ sig Bool) Wd) ⊢ _
  unfold T2
  rw [StableHlo.held_sub_split (c : Thread nD τ) own1_sub (W2 m c)]
  iintro ⟨Ha, -, ⟨Hr, -⟩, Hb, HO⟩
  isplitl [Ha Hr]; · isplitl [Ha] <;> iassumption
  isplitl [Hb]; · iexact Hb
  iexact HO

theorem pre2 (c : Dev nD) : T2 m c ⊢ (reg2 m).pre c := by
  show _ ⊢ iprop(StableHlo.held (c : Thread nD τ) own2 (W2 m c) ∗ emp
    ∗ (StableHlo.held (c : Thread nD τ) (Pipeline.ucRefs τ sig \ own2) (W2 m c) ∗ semVal (barCell c) 0)
    ∗ ∃ Wd, owes (c : Thread nD τ) (0 : CellTallies nD τ sig Bool) Wd)
  unfold T2
  rw [StableHlo.held_sub_split (c : Thread nD τ) own2_sub (W2 m c)]
  iintro ⟨⟨Ha, Hr⟩, Hb, HO⟩
  isplitl [Ha]; · iexact Ha
  isplitr; · iempintro
  isplitl [Hr Hb]; · isplitl [Hr] <;> iassumption
  iexact HO

theorem post2 (c : Dev nD) : (reg2 m).post c ⊢ iprop(T3 m c ∗ ∃ Wd, owes (c : Thread nD τ) (0 : CellTallies nD τ sig Bool) Wd) := by
  show iprop(StableHlo.held (c : Thread nD τ) own2 (W3 m c) ∗ emp
    ∗ (StableHlo.held (c : Thread nD τ) (Pipeline.ucRefs τ sig \ own2) (W2 m c) ∗ semVal (barCell c) 0)
    ∗ ∃ Wd, owes (c : Thread nD τ) (0 : CellTallies nD τ sig Bool) Wd) ⊢ _
  unfold T3
  rw [StableHlo.held_sub_split (c : Thread nD τ) own2_sub (W3 m c), held_update c _ own2 (W2 m c) main_v3 _ (by decide)]
  iintro ⟨Ha, -, ⟨Hr, Hb⟩, HO⟩
  isplitr [HO]
  · isplitl [Ha Hr]; · isplitl [Ha] <;> iassumption
    iexact Hb
  iexact HO

end Cert.KernelIdeal.Norm

end
-- ==== Proof.Launch.lean ====
/-
  The launch: every semaphore's invariant made, what the exchange needs dealt to the devices, and the whole run.
-/
module

public import proofs.«01_k».proof.Proof.Calls
public import Idealize.ShloMosaic.Lib.Quiescent

@[expose] public section

noncomputable section

namespace Cert.KernelIdeal.Norm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (Dat BodyObligation)
open Cert.KernelIdeal.Gen

variable {F : FTy → Type} [FloatOps F]

local notation "𝕄" => MT nD τ sig Bool (Elt F) ℕ UU ℕ

variable (m : (ℓ : Loc nD τ sig) → Buf (Elt F) ℓ) (ρ : Dev nD → PrngReg)

/-! ## Tokens -/

/-- The three things device `x.1` pays towards its `x.2.1`-th peer: the peer's barrier, the peer's receive semaphore, its own send semaphore. -/
def tokDev (x : Dev nD × Fin 7 × Fin 3) : Dev nD := if x.2.2 = 2 then x.1 else pr x.1 x.2.1
def tokSem (x : Dev nD × Fin 7 × Fin 3) : SemLoc sig :=
  if x.2.2 = 0 then .reg barrier0 else if x.2.2 = 1 then .dma (recvSem x.1) else .dma (sendSem x.2.1)
def tokWho (x : Dev nD × Fin 7 × Fin 3) : Dev nD := if x.2.2 = 0 then x.1 else 0

theorem tok_inj : Function.Injective fun x => (tokDev x, tokSem x, tokWho x) := by decide +kernel

def tokEmb : Dev nD × Fin 7 × Fin 3 ↪ GSem nD τ sig × ℕ × Dev nD :=
  ⟨fun x => (((tokDev x : Thread nD τ), tokSem x), 0, tokWho x), fun x y h => tok_inj (by
    have h1 : tokDev x = tokDev y := congrArg (fun t : GSem nD τ sig × ℕ × Dev nD => t.1.1.1) h
    have h2 : tokSem x = tokSem y := congrArg (fun t : GSem nD τ sig × ℕ × Dev nD => t.1.2) h
    have h3 : tokWho x = tokWho y := congrArg (fun t : GSem nD τ sig × ℕ × Dev nD => t.2.2) h
    show (_, _, _) = (_, _, _)
    rw [h1, h2, h3])⟩

abbrev toks : Finset (GSem nD τ sig × ℕ × Dev nD) := Finset.univ.map tokEmb

theorem bigSep_fin3 (Φ : Fin 3 → sProp 𝕄) : bigSep Finset.univ Φ = iprop(Φ 0 ∗ Φ 1 ∗ Φ 2) := by
  rw [bigSep_univ_eq_bigSepL [0, 1, 2] (by decide) (by decide)]
  rfl

theorem toks_dealt : bigSep toks (fun x => (dutyTok EB x.1 x.2.1 x.2.2 : sProp 𝕄)) = bigSep Finset.univ fun c : Dev nD => bigSep Finset.univ (tokens (F := F) c) := by
  rw [bigSep_map, bigSep_univ_prod]
  refine bigSep_congr fun c _ => ?_
  rw [bigSep_univ_prod]
  refine bigSep_congr fun i _ => ?_
  rw [bigSep_fin3]
  rfl

theorem disjoint_cells : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  have h2 : (SemLoc.dma (ownSem x.1 x.2) : SemLoc sig) = .reg barrier0 := congrArg Prod.snd h
  cases h2

theorem unopened_dealt : bigSep scCells (fun g => (openTok EB g : sProp 𝕄)) = bigSep Finset.univ fun c : Dev nD => bigSep Finset.univ (unopened (F := F) c) := by
  rw [bigSep_map, bigSep_univ_prod]
  refine bigSep_congr fun c _ => ?_
  rw [bigSep_univ_prod, bigSep_univ_eq_bigSepL [true, false] (by decide) (by decide)]
  unfold unopened
  rw [bigSep_sep']
  rfl

/-! ## What is owed to each semaphore -/

theorem finFrom_zero : SparseCore.ProtocolKit.finFrom 7 0 = Finset.univ := by decide

theorem owed_apply (d : Dev nD) (g : GSem nD τ sig) (b : Bool) :
    O₀ d g b = (∑ i : Fin 7, if g = recvCell (pr d i) d ∧ b = true then N else 0) + ∑ i : Fin 7, if g = barCell (pr d i) ∧ b = true then 1 else 0 := by
  unfold O₀ owedSend owedBar
  rw [finFrom_zero, Pi.add_apply, Finsupp.add_apply, tally_sum_apply, tally_sum_apply]

theorem bar_iff (c d : Dev nD) : (barCell c : GSem nD τ sig) = barCell d ↔ c = d :=
  ⟨fun h => congrArg (fun g : GSem nD τ sig => g.1.1) h, fun h => h ▸ rfl⟩
theorem recv_iff (c d s t : Dev nD) : (recvCell c s : GSem nD τ sig) = recvCell d t ↔ c = d ∧ s = t :=
  ⟨fun h => ⟨congrArg (fun g : GSem nD τ sig => g.1.1) h, by
    have h2 : (SemLoc.dma (recvSem s) : SemLoc sig) = .dma (recvSem t) := congrArg Prod.snd h
    have h3 : 19 + s.val = 19 + t.val := congrArg Fin.val (SemLoc.dma.inj h2)
    exact Fin.ext (by omega)⟩, fun h => by rw [h.1, h.2]⟩
theorem bar_ne_recv (c d s : Dev nD) : (barCell c : GSem nD τ sig) ≠ recvCell d s := fun h => by
  have h2 : (SemLoc.reg barrier0 : SemLoc sig) = .dma (recvSem s) := congrArg Prod.snd h
  cases h2

theorem count_bar : ∀ c : Dev nD, (∑ d : Dev nD, ∑ i : Fin 7, if c = pr d i then 1 else 0) = 7 := by decide +kernel
theorem count_recv : ∀ (c : Dev nD) (j : Fin 7), (∑ d : Dev nD, ∑ i : Fin 7, if c = pr d i ∧ pr c j = d then 1 else 0) = 1 := by decide +kernel

theorem launch_bar (c : Dev nD) :
    tallyOn (barCell c) (launchCredit (Pipeline.owing O₀) 0 (barCell c)) = (tallyAt (barCell c) true 7 : CellTallies nD τ sig Bool) := by
  unfold tallyAt
  refine congrArg _ (Finsupp.ext fun b => ?_)
  rw [Pipeline.launchCredit_owing, Finsupp.single_apply]
  simp only [owed_apply, bar_iff, bar_ne_recv, false_and, if_false, Finset.sum_const_zero, zero_add]
  cases b
  · simp
  · simpa using count_bar c

theorem launch_recv (c : Dev nD) (j : Fin 7) :
    tallyOn (recvCell c (pr c j)) (launchCredit (Pipeline.owing O₀) 0 (recvCell c (pr c j))) = (tallyAt (recvCell c (pr c j)) true N : CellTallies nD τ sig Bool) := by
  unfold tallyAt
  refine congrArg _ (Finsupp.ext fun b => ?_)
  rw [Pipeline.launchCredit_owing, Finsupp.single_apply]
  simp only [owed_apply, recv_iff, (bar_ne_recv _ _ _).symm, false_and, if_false, Finset.sum_const_zero, add_zero]
  cases b
  · simp
  · have h (n : ℕ) (d : Dev nD) (i : Fin 7) : (if c = pr d i ∧ pr c j = d then n else 0) = n * if c = pr d i ∧ pr c j = d then 1 else 0 := by
      simp only [mul_ite, mul_one, mul_zero]
    have hN : (∑ d : Dev nD, ∑ i : Fin 7, if c = pr d i ∧ pr c j = d then N else 0) = N := by
      rw [Finset.sum_congr rfl fun d _ => Finset.sum_congr rfl fun i _ => h N d i]
      simp only [← Finset.mul_sum, count_recv c j, mul_one]
    simpa only [and_true, if_true] using hN

theorem recvSem_inj : Function.Injective fun s : Dev nD => (SemLoc.dma (recvSem s) : SemLoc sig) := by decide +kernel

theorem creds (c : Dev nD) : (Pipeline.launchCred O₀ c : sProp 𝕄) ⊢ credits c := by
  unfold Pipeline.launchCred credits
  rw [bigSep_univ_at _ (SemLoc.reg barrier0), launch_bar]
  refine sep_mono_right ?_
  have hsub : (Finset.univ.image fun i : Fin 7 => (SemLoc.dma (recvSem (pr c i)) : SemLoc sig)) ⊆ Finset.univ.erase (SemLoc.reg barrier0) := fun x hx => by
    obtain ⟨i, -, rfl⟩ := Finset.mem_image.mp hx
    exact Finset.mem_erase.mpr ⟨(fun h => by cases h), Finset.mem_univ _⟩
  refine (bigSep_subset hsub).trans ?_
  rw [bigSep_image_of_injOn (fun i _ j _ h => pr_inj c (recvSem_inj h))]
  exact Entails.of_eq (bigSep_congr fun i _ => congrArg cred (launch_recv c i))

/-! ## The launch -/

theorem unscoped_eq : ∀ sm : SemLoc sig, sm.isScoped .tc = false → sm = .reg barrier0 := by decide +kernel
theorem unscoped_set : (Finset.univ.filter fun sm : SemLoc sig => ¬ sm.isScoped .tc) = {SemLoc.reg barrier0} := by decide +kernel

theorem unscopedSems0_eq (c : Dev nD) : (unscopedSems0 c : sProp 𝕄) = semVal (barCell c) 0 := by
  unfold unscopedSems0
  rw [unscoped_set, bigSep_singleton]

/-- The initial ghost element: the windows' semaphores, and the exchange's. -/
def u₀ : UU :=
  (initOf (Pipeline.cells (Pipeline.pin (pcfgs (F := F)) adm) cellOf_inj) (Pipeline.launchToks (Pipeline.pin (pcfgs (F := F)) adm) cellOf_inj),
    (launchOf barCells scCells toks, 1))

/-- The exchange's element waits on device 0 until every barrier's counter is at hand. -/
def parked (c : Dev nD) : sProp 𝕄 := if c = 0 then BI.own (EB (launchOf barCells scCells toks)) else iprop(emp)

theorem bigSep_parked : bigSep Finset.univ (parked (F := F)) = BI.own (EB (launchOf barCells scCells toks)) := by
  rw [bigSep_univ_at _ 0, bigSep_congr (s := Finset.univ.erase 0) (Ψ := fun _ => (BI.emp : sProp 𝕄))
      fun c hc => by unfold parked; rw [if_neg (Finset.ne_of_mem_erase hc)]; rfl, BI.bigSep_emp_const]
  unfold parked
  rw [if_pos rfl]
  exact BI.equiv_iff.mp sep_emp

theorem ownU_split (a : UR sig nD τ) (b : UB) : (ownU ((a, (b, 1)) : UU) : sProp 𝕄) ⊢ iprop(BI.own (EP a) ∗ BI.own (EB b)) :=
  BI.own_op_elim (uEmb.toEmb.op_of_mem (Prod.mk_mem_op (URA.mem_op_one a) (URA.mem_one_op (b, (1 : Counters)))))

/-- What the launch gives a device outright. -/
def given (c : Dev nD) : sProp 𝕄 :=
  iprop(StableHlo.held (c : Thread nD τ) (Pipeline.ucRefs τ sig) (W0 m c) ∗ (∃ r, prngReg c r) ∗ owes (c : Thread nD τ) (O₀ c) ∅ ∗ credits c)
/-- Its share of the exchange's tokens. -/
def dealt (c : Dev nD) : sProp 𝕄 :=
  iprop(atPos EB (barCell c) 0 ∅ 0 ∗ bigSep Finset.univ (unopened (F := F) c) ∗ bigSep Finset.univ (tokens (F := F) c))

theorem T0_intro (κ : GSem nD τ sig → ℕ) (c : Dev nD) : iprop(records (gath (sumsOf m)) κ ∗ (dealt c ∗ given m c)) ⊢ T0 m c := by
  unfold given dealt T0 Tk
  iintro ⟨#HR, ⟨HaB, Ho, Ht⟩, Hh, Hp, HO, Hcr⟩
  isplitl [Hh]; · iexact Hh
  isplitl [Hp]; · iexact Hp
  isplitr [HO]
  · isplitr; · iexists κ; iexact HR
    isplitl [HaB]; · iexact HaB
    isplitl [Hcr]; · iexact Hcr
    isplitl [Ho]; · iexact Ho
    iexact Ht
  iexists ∅
  iexact HO

/-- A device's launch holdings, sorted. -/
theorem sorted (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ parked c)
    ⊢ (iprop(given m c ∗ (semVal (barCell c) 0 ∗ parked c)) : sProp 𝕄) := by
  rw [show unscopedBufs c (fun b => m ((c : Thread nD τ).loc b)) = StableHlo.held (c : Thread nD τ) (Pipeline.ucRefs τ sig) (W0 m c)
      from Pipeline.unscopedBufs_held c (W0 m c), unscopedSems0_eq]
  unfold given
  iintro ⟨Hh, Hus, HO, Hcr, Hp, HG⟩
  isplitl [Hh HO Hcr Hp]
  · isplitl [Hh]; · iexact Hh
    isplitl [Hp]; · iexists (ρ c); iexact Hp
    isplitl [HO]; · iexact HO
    iapply (creds (F := F) c) $$ Hcr
  isplitl [Hus] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (T0 m) : sProp 𝕄) := by
  have hsort : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (bigSep Finset.univ fun c : Dev nD => iprop(given m c ∗ (semVal (barCell c) 0 ∗ parked c)) : sProp 𝕄) := bigSep_mono fun c _ => sorted m ρ c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos EB g 0 ∅ 0 : sProp 𝕄)) ⊢ bigSep Finset.univ (fun c : Dev nD => (atPos EB (barCell c) 0 ∅ 0 : sProp 𝕄)) :=
    Entails.of_eq (bigSep_map (s := Finset.univ) barEmb (Φ := fun g : GSem nD τ sig => (atPos EB g 0 ∅ 0 : sProp 𝕄)))
  iintro ⟨H, -⟩
  ihave H := hsort $$ H
  ihave H := (Entails.of_eq (bigSep_sep' _ _ _)) $$ H
  icases H with ⟨Hgiven, H⟩
  ihave H := (Entails.of_eq (bigSep_sep' _ _ _)) $$ H
  icases H with ⟨Hv, HG⟩
  ihave Hu := (Entails.of_eq (bigSep_parked (F := F))) $$ HG
  imod (Rounds.fund_launch EB (rd (gath (sumsOf m))) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records (gath (sumsOf m)) κ) (Φ := fun c => iprop(dealt c ∗ given m c)) fun c _ => T0_intro m κ c)
  isplitr
  · unfold records
    isplitr; · iexact Hinv
    iexact Hr
  iapply (Entails.of_eq (bigSep_sep' _ _ _).symm)
  isplitr [Hgiven]
  · unfold dealt
    iapply (Entails.of_eq (bigSep_sep' _ _ _).symm)
    isplitl [Hat]; · iapply hat $$ Hat
    iapply (Entails.of_eq (bigSep_sep' _ _ _).symm)
    isplitl [Hopen]; · iapply (Entails.of_eq (unopened_dealt (F := F))) $$ Hopen
    iapply (Entails.of_eq (toks_dealt (F := F))) $$ Htok
  · iexact Hgiven

/-! ## The run -/

set_option backward.isDefEq.respectTransparency.types false in
/-- Every weakly fair run ends with each device's columns of the result in place, the arguments as they were, and every
    semaphore at zero. -/
theorem run_main [∀ e, Nonempty (Elt F e)] : θ_run defs (onTc (τ := τ) (main (F := F))) ⟨m, fun _ => 0, ρ⟩
    (fun r => (∀ c : Dev nD, r.2.mem ((c.tc : Thread nD τ).loc main_v3) = layerOf m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) :=
  Pipeline.θ_run_regions_kit_dev_sems (pcfgs (F := F)) adm (pdats m) false cellOf_inj EP defs₀ 𝒱₀ L lv m ρ main
    (fun _ => [.region (reg0 m), .region (reg1 m), .region (reg2 m)])
    (fun c Q => by
      rewrite [main_chain c, Pipeline.Seg.run_eq_chain]
      dsimp (config := { failIfUnchanged := false }) only
      exact .rfl)
    (fun c => by simp only [Pipeline.Seg.pipes_host, Pipeline.Seg.pipes_region, Pipeline.Seg.pipes_nil]; decide)
    (O₀ := O₀) (hL := L_of_ne) (G := parked) (u₀ := u₀ (F := F))
    (hu₀ := by
      unfold u₀
      iintro Hu
      ihave H := (ownU_split _ _) $$ Hu
      icases H with ⟨HP, HX⟩
      imodintro
      isplitl [HP]; · iexact HP
      rw [bigSep_parked]; iexact HX)
    (T₀ := T0 m) (Tₙ := T3 m)
    (hch := fun c => ⟨pre0 m c, (post0 m c).trans (pre1 m c), (post1 m c).trans (pre2 m c), post2 m c⟩)
    (hinit := init m ρ)
    (QY := fun c s => (∀ b ∈ Pipeline.ucRefs τ sig, s.mem ((c : Thread nD τ).1, b) = W3 m c b) ∧ s.sem (barCell c) = 0)
    (hfin := fun c s' => by
      unfold T3 StableHlo.held
      iintro ⟨⟨Hh, Hb0⟩, HSI⟩
      icombine HSI Hb0 gives %hb
      ihave H := (pointsTo_read_all (Pipeline.ucRefs τ sig) (fun b => ((c : Thread nD τ).1, b)) (W3 m c) s') $$ [Hh HSI]
      · isplitl [Hh] <;> iassumption
      icases H with ⟨%hh, HSI⟩
      imodintro
      isplitr
      · ipureintro
        exact ⟨hh, by simpa using hb⟩
      iexact HSI)
    (hQ := fun s h hs => ⟨fun c => by
        obtain ⟨hm, -⟩ := h c
        exact ⟨(hm _ (by decide : Proc.devRef .tc main_v3 ∈ Pipeline.ucRefs τ sig)).trans (W3_v3 m c),
          (hm _ (by decide : Proc.devRef .tc main_arg0 ∈ Pipeline.ucRefs τ sig)).trans (W3_arg m c main_arg0 (by decide) (by decide) (by decide)),
          (hm _ (by decide : Proc.devRef .tc main_arg1 ∈ Pipeline.ucRefs τ sig)).trans (W3_arg m c main_arg1 (by decide) (by decide) (by decide)),
          (hm _ (by decide : Proc.devRef .tc main_arg2 ∈ Pipeline.ucRefs τ sig)).trans (W3_arg m c main_arg2 (by decide) (by decide) (by decide))⟩,
      sem_eq_zero hs fun c sm hsm => by
        obtain rfl := unscoped_eq sm hsm
        exact (h c).2⟩)

end Cert.KernelIdeal.Norm

end
-- ==== Proof.Frames.lean ====
/-
  The frames: every run ends, leaves the arguments alone, and leaves every semaphore at zero.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Norm

open Idealize.ShloMosaic Idealize.ShloMosaic.TcCoe Idealize.SL.Sem

attribute [local instance] Cert.Kernel.Gen.facts Cert.KernelIdeal.Gen.facts Cert.ReferenceIdeal.Gen.facts

theorem preFacts : Cert.Pre_finite_x_KernelIdeal.Facts where
  bcast_S_S4096x1024 := by decide
  reducesTo_S4096x1024_S_d0_1 := by decide
  h_S_ := by decide
theorem refPreFacts : Cert.Pre_finite_x_ReferenceIdeal.Facts where
  bcast_S_S4096x8192 := by decide
  reducesTo_S4096x8192_S_d0_1 := by decide
  h_S_ := by decide

/-- The two printings of the kernel have one table of bodies. -/
theorem bodies_eq (p) (i) (a) : Cert.Kernel.defs₀ (F := Bits) p i a = Cert.KernelIdeal.defs₀ (F := Bits) p i a :=
  match p, i, a with
  | .tc, ⟨0, _⟩, (_, _) => rfl
  | .tc, ⟨1, _⟩, (_, _) => rfl
  | .tc, ⟨2, _⟩, (_, _) => rfl
  | .scScalar _, _, _ => rfl
  | .scVector _ _, _, _ => rfl

theorem defs_eq : Cert.Kernel.defs (F := Bits) = Cert.KernelIdeal.defs (F := Bits) := by
  show Pipeline.defs Cert.KernelIdeal.pcfgs Cert.Kernel.defs₀ = Pipeline.defs Cert.KernelIdeal.pcfgs Cert.KernelIdeal.defs₀
  exact congrArg (Pipeline.defs Cert.KernelIdeal.pcfgs) (funext fun p => funext fun i => funext fun a => bodies_eq p i a)

/-- The kernel as printed. -/
theorem frame_kernel : Cert.quiescent_Kernel := fun m ρ _ => by
  rw [defs_eq]
  exact (θ_run Cert.KernelIdeal.defs _ _).mono (fun _ h => ⟨fun c => (h.1 c).2, h.2⟩) (Cert.KernelIdeal.Norm.run_main (F := Bits) m ρ)

/-- The kernel over the extended reals. -/
theorem frame_ideal : Cert.quiescent_KernelIdeal := fun m ρ _ =>
  (θ_run Cert.KernelIdeal.defs _ _).mono (fun _ h => ⟨fun c => (h.1 c).2, h.2⟩) (Cert.KernelIdeal.Norm.run_main (F := Ideal) m ρ)

theorem frame_ideal_finite : Cert.quiescent_KernelIdeal_pre_finite_x_KernelIdeal (hPre_finite_x_KernelIdeal := preFacts) := fun m ρ _ =>
  frame_ideal m ρ trivial

/-- The reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite_x_ReferenceIdeal (hPre_finite_x_ReferenceIdeal := refPreFacts) := fun m ρ _ =>
  frame_reference m ρ trivial

end Cert.Norm

end
-- ==== Proof.Equation.lean ====
/-
  The equation, over finite numbers: the mean of the squares less the square of the mean is the mean square distance from
  the mean, and multiplying by a reciprocal root is dividing by the root.
-/
module

public import Idealize.ShloMosaic.PureOps.Ideal.Laws

@[expose] public section

noncomputable section

namespace Cert.Norm

open Idealize.ShloMosaic

/-- The number of columns, and what is added under the root. -/
abbrev count : EReal := Ideal.ofBits .f32 0x46000000#32
abbrev eps : EReal := Ideal.ofBits .f32 0x3727C5AC#32

theorem count_eq : count = ((8192 : ℝ) : EReal) := by
  simp [count, Ideal.ofBits, Ideal.ieee, -EReal.coe_mul]; norm_num

theorem eps_eq : ∃ e : ℝ, 0 < e ∧ eps = (e : EReal) := by
  refine ⟨10995116 * (2 : ℝ) ^ (-40 : ℤ), by positivity, ?_⟩
  simp [eps, Ideal.ofBits, Ideal.ieee, -EReal.coe_mul]

/-- The mean of finite numbers. -/
theorem mean_coe (y : Fin 8192 → ℝ) : Ideal.div (∑ k, (y k : EReal)) count = (((∑ k, y k) / 8192 : ℝ) : EReal) := by
  have hs : (∑ k, (y k : EReal)) = ((∑ k, y k : ℝ) : EReal) := (map_sum (⟨⟨Real.toEReal, EReal.coe_zero⟩, EReal.coe_add⟩ : ℝ →+ EReal) y Finset.univ).symm
  rw [hs, count_eq, Ideal.div, if_neg (by norm_num), ← EReal.coe_inv, ← EReal.coe_mul, div_eq_mul_inv]

/-- The variance, two ways. -/
theorem variance (y : Fin 8192 → ℝ) :
    (∑ k, y k * y k) / 8192 - (∑ k, y k) / 8192 * ((∑ k, y k) / 8192)
      = (∑ k, (y k - (∑ k, y k) / 8192) * (y k - (∑ k, y k) / 8192)) / 8192 := by
  generalize hS : ∑ k, y k = S
  have h : ∀ k, (y k - S / 8192) * (y k - S / 8192) = y k * y k - 2 * (S / 8192) * y k + S / 8192 * (S / 8192) := fun k => by ring
  simp only [h]
  rw [Finset.sum_add_distrib, Finset.sum_sub_distrib, ← Finset.mul_sum, hS]
  simp
  ring

/-- Scaled by the reciprocal root, or divided by the root. -/
theorem scale (d v e : ℝ) (hv : 0 ≤ v) (he : 0 < e) (g b : EReal) :
    (d : EReal) * Ideal.rsqrt ((v : EReal) + (e : EReal)) * g + b = Ideal.div (g * (d : EReal)) (Ideal.sqrt ((v : EReal) + (e : EReal))) + b := by
  have hp : 0 < v + e := by linarith
  have hr : Real.sqrt (v + e) ≠ 0 := (Real.sqrt_pos.2 hp).ne'
  rw [← EReal.coe_add, Ideal.rsqrt_coe, if_neg hp.not_gt, if_neg hp.ne', Ideal.sqrt_coe, if_neg hp.not_gt, Ideal.div,
    if_neg (by exact_mod_cast hr), ← EReal.coe_inv]
  congr 1
  rw [mul_comm, ← mul_assoc]

/-- The two results at an entry of a row of finite numbers. -/
theorem equation (x : Fin 8192 → EReal) (hx : ∀ k, x k ≠ ⊤ ∧ x k ≠ ⊥) (K : Fin 8192) (g b : EReal) :
    (x K - Ideal.div (∑ k, x k) count)
        * Ideal.rsqrt (Ideal.div (∑ k, x k * x k) count - Ideal.div (∑ k, x k) count * Ideal.div (∑ k, x k) count + eps) * g + b
      = Ideal.div (g * (x K - Ideal.div (∑ k, x k) count))
          (Ideal.sqrt (Ideal.div (∑ k, (x k - Ideal.div (∑ k, x k) count) * (x k - Ideal.div (∑ k, x k) count)) count + eps)) + b := by
  obtain ⟨y, rfl⟩ : ∃ y : Fin 8192 → ℝ, x = fun k => (y k : EReal) :=
    ⟨fun k => (x k).toReal, funext fun k => (EReal.coe_toReal (hx k).1 (hx k).2).symm⟩
  obtain ⟨e, he, hee⟩ := eps_eq
  rw [hee]
  simp only [mean_coe]
  simp only [← EReal.coe_mul, ← EReal.coe_sub, mean_coe (fun k => y k * y k),
    mean_coe (fun k => (y k - (∑ k, y k) / 8192) * (y k - (∑ k, y k) / 8192)), variance]
  exact scale _ _ e (div_nonneg (Finset.sum_nonneg fun k _ => mul_self_nonneg _) (by norm_num)) he g b

/-- A sum over all columns, device by device. -/
theorem sum_devices (f : Fin 8192 → EReal) :
    ∑ K, f K = ∑ c : Fin 8, ∑ k : Fin 1024, f ⟨c.val * 1024 + k.val, by have h := c.isLt; have h' := k.isLt; omega⟩ := by
  rw [← Fintype.sum_prod_type' (f := fun (c : Fin 8) (k : Fin 1024) => f ⟨c.val * 1024 + k.val, by have h := c.isLt; have h' := k.isLt; omega⟩)]
  refine (Equiv.sum_comp (finProdFinEquiv : Fin 8 × Fin 1024 ≃ Fin (8 * 1024)) f).symm.trans ?_
  refine Finset.sum_congr rfl fun p _ => congrArg f (Fin.ext ?_)
  show p.2.val + 1024 * p.1.val = p.1.val * 1024 + p.2.val
  omega

end Cert.Norm

end
-- ==== Proof.KernelValue.lean ====
/-
  What the kernel computes over the extended reals, entry by entry: the row sums of one device's columns, the
  statistics made of the eight devices' sums, and an entry of the result.
-/
module

public import proofs.«01_k».proof.Proof.Data
public import proofs.«01_k».proof.Proof.Equation
public import Idealize.ShloMosaic.PureOps.Ideal.Laws
public import Idealize.ShloMosaic.Lib.ValueIdx
public import Idealize.ShloMosaic.Lib.ValueLayout

@[expose] public section

noncomputable section

namespace Cert.KernelIdeal.Norm

open Idealize.ShloMosaic
open Idealize.ShloMosaic.TcCoe
open Idealize.ShloMosaic.ValueIdx
open Cert.KernelIdeal.Gen
open Cert.Norm (count eps)

/-! ## An index with the reduced axis put back -/

theorem lift_rows {a b : ℕ} (h : (⟨2, ![a, b]⟩ : Shape).Reduces [1] (⟨1, ![a]⟩ : Shape)) (i : Fin a) (k : Fin b) :
    h.lift (ix1 i) k = ix2 i k := by
  funext x; apply Fin.ext
  fin_cases x <;> rfl

theorem lift_stack {a b c : ℕ} (h : (⟨3, ![a, b, c]⟩ : Shape).Reduces [0] (⟨2, ![b, c]⟩ : Shape)) (i : Fin b) (j : Fin c) (k : Fin a) :
    h.lift (ix2 i j) k = ix3 k i j := by
  funext x; apply Fin.ext
  fin_cases x <;> rfl

/-! ## The first call -/

theorem rowSum_apply (v : FVec Ideal S512x1024 .f32) (i : Fin 512) :
    multiReduction .add [1] S512 v 0x00000000#32 reduces_S512x1024_S512 (.inl rfl) rfl (ix1 i) = ∑ k : Fin 1024, v (ix2 i k) := by
  refine (Ideal.multiReduction_add_single v _ _ _ _ _).trans ?_
  exact Finset.sum_congr rfl fun k _ => congrArg v (lift_rows _ i k)

theorem pair_first (x y : FVec Ideal S1x512 .f32) (i : Fin 512) :
    concatenate S2x512 0 [⟨S1x512, x⟩, ⟨S1x512, y⟩] concatenates_S1x512_S1x512_S2x512_d0 (ix2 (0 : Fin 2) i) = x (ix2 (0 : Fin 1) i) := by
  refine concatenate_pair_apply_left (0 : Fin S2x512.rank) x y _ (ix2 (0 : Fin 2) i) rfl (ix2 (0 : Fin 1) i : S1x512.Idx) fun b => ?_
  match b with
  | ⟨0, _⟩ => rfl
  | ⟨1, _⟩ => rfl

theorem pair_second (x y : FVec Ideal S1x512 .f32) (i : Fin 512) :
    concatenate S2x512 0 [⟨S1x512, x⟩, ⟨S1x512, y⟩] concatenates_S1x512_S1x512_S2x512_d0 (ix2 (1 : Fin 2) i) = y (ix2 (0 : Fin 1) i) := by
  refine concatenate_pair_apply_right (0 : Fin S2x512.rank) x y _ (ix2 (1 : Fin 2) i) rfl rfl (ix2 (0 : Fin 1) i : S1x512.Idx) (fun b hb => ?_) rfl
  match b, hb with
  | ⟨0, _⟩, hb => exact absurd rfl hb
  | ⟨1, _⟩, _ => rfl

theorem k0_pay1_sum (v : Vec Ideal S512x1024 .f32) (i : Fin 512) :
    k0_pay1 v (ix2 (0 : Fin 2) i) = ∑ k : Fin 1024, v (ix2 i k) :=
  (pair_first _ _ i).trans ((shapeCast_a_1a_apply _ _ _ _).trans (rowSum_apply v i))

theorem k0_pay1_square (v : Vec Ideal S512x1024 .f32) (i : Fin 512) :
    k0_pay1 v (ix2 (1 : Fin 2) i) = ∑ k : Fin 1024, v (ix2 i k) * v (ix2 i k) :=
  (pair_second _ _ i).trans ((shapeCast_a_1a_apply _ _ _ _).trans
    ((rowSum_apply _ i).trans (Finset.sum_congr rfl fun k _ => mulf_apply v v _)))

theorem rows_apply (X : Vec Ideal S4096x1024 .f32) (r : Fin 4096) (k : Fin 1024)
    (h : r.val / 512 < 8) (h' : r.val % 512 < 512) : rows X ⟨r.val / 512, h⟩ (ix2 (⟨r.val % 512, h'⟩ : Fin 512) k) = X (ix2 r k) := by
  refine congrArg X (congrArg (fun t : Fin 4096 => (ix2 t k : S4096x1024.Idx)) (Fin.ext ?_))
  exact Nat.div_add_mod r.val 512

/-- A row's sum on one device. -/
theorem partials_sum (X : Vec Ideal S4096x1024 .f32) (r : Fin 4096) : partials X (ix2 (0 : Fin 2) r) = ∑ k : Fin 1024, X (ix2 r k) :=
  (k0_pay1_sum _ _).trans (Finset.sum_congr rfl fun k _ => rows_apply X r k _ _)

/-- The sum of a row's squares on one device. -/
theorem partials_square (X : Vec Ideal S4096x1024 .f32) (r : Fin 4096) :
    partials X (ix2 (1 : Fin 2) r) = ∑ k : Fin 1024, X (ix2 r k) * X (ix2 r k) :=
  (k0_pay1_square _ _).trans (Finset.sum_congr rfl fun k _ => congrArg₂ (· * ·) (rows_apply X r k _ _) (rows_apply X r k _ _))

/-! ## The second call -/

/-- The sum over the devices. -/
theorem k1_pay2_apply (g : Vec Ideal S8x2x4096 .f32) (r : Fin 4096) (j : Fin 2) : k1_pay2 g (ix2 r j) = ∑ c : Fin 8, g (ix3 c j r) := by
  refine (transpose_ix2_apply _ _ r j).trans ((Ideal.multiReduction_add_single g _ _ _ _ _).trans ?_)
  exact Finset.sum_congr rfl fun c _ => congrArg g (lift_stack _ j r c)

theorem k1_pay3_apply (g : Vec Ideal S8x2x4096 .f32) (r : Fin 4096) :
    k1_pay3 g (ix2 r (0 : Fin 1)) = Ideal.div (∑ c : Fin 8, g (ix3 c 0 r)) count := by
  refine (divf_apply _ _ _).trans (congrArg₂ Ideal.div ?_ (broadcast_apply _ _))
  exact (slice2_axis1_apply 0 _ _ r 0 0 rfl).trans (k1_pay2_apply g r 0)

theorem k1_pay4_apply (g : Vec Ideal S8x2x4096 .f32) (r : Fin 4096) :
    k1_pay4 g (ix2 r (0 : Fin 1)) = Ideal.rsqrt (Ideal.div (∑ c : Fin 8, g (ix3 c 1 r)) count
      - Ideal.div (∑ c : Fin 8, g (ix3 c 0 r)) count * Ideal.div (∑ c : Fin 8, g (ix3 c 0 r)) count + eps) := by
  refine congrArg Ideal.rsqrt (congrArg (· + eps) (congrArg₂ (· - ·) ?_ (congrArg₂ (· * ·) (k1_pay3_apply g r) (k1_pay3_apply g r))))
  refine (divf_apply _ _ _).trans (congrArg₂ Ideal.div ?_ (broadcast_apply _ _))
  exact (slice2_axis1_apply 1 _ _ r 0 1 rfl).trans (k1_pay2_apply g r 1)

/-! ## The third call -/

theorem broadcast_col (v : FVec Ideal S1024x1 .f32) (i j : Fin 1024) :
    broadcastTo S1024x1024 v broadcasts_S1024x1_S1024x1024 (ix2 i j) = v (ix2 i (0 : Fin 1)) := by
  refine broadcastTo_apply v _ (ix2 i j) (ix2 i (0 : Fin 1)) fun ax => ?_
  match ax with
  | ⟨0, _⟩ => rfl
  | ⟨1, _⟩ => rfl

theorem broadcast_row (v : Vec Ideal S1024 .f32) (i j : Fin 1024) :
    broadcastTo S1024x1024 (shapeCast S1x1024 (shapeCast S1024 v shapeCasts_S1024_S1024) shapeCasts_S1024_S1x1024) broadcasts_S1x1024_S1024x1024 (ix2 i j) = v (ix1 j) := by
  refine (broadcastTo_1b_ab_apply _ _ i j).trans ((shapeCast_a_1a_apply _ _ _ _).trans ?_)
  exact congrFun (shapeCast_self v _) _

theorem k2_pay1_apply (X : Vec Ideal S1024x1024 .f32) (mu rs : Vec Ideal S1024x1 .f32) (g b : Vec Ideal S1024 .f32) (i j : Fin 1024) :
    k2_pay1 X mu rs g b (ix2 i j) = (X (ix2 i j) - mu (ix2 i 0)) * rs (ix2 i 0) * g (ix1 j) + b (ix1 j) := by
  refine congrArg₂ (· + ·) (congrArg₂ (· * ·) (congrArg₂ (· * ·) (congrArg₂ (· - ·) ?_ ?_) ?_) ?_) ?_
  · exact congrFun (shapeCast_self X _) _
  · exact (broadcast_col _ i j).trans (congrFun (shapeCast_self mu _) _)
  · exact (broadcast_col _ i j).trans (congrFun (shapeCast_self rs _) _)
  · exact broadcast_row g i j
  · exact broadcast_row b i j

theorem block_row {n : ℕ} (X : Vec Ideal ⟨2, ![4096, n]⟩ .f32) (r : Fin 4096) (k : Fin n)
    (h : r.val / 1024 < 4) (h' : r.val % 1024 < 1024) :
    block X ⟨r.val / 1024, h⟩ (ix2 (⟨r.val % 1024, h'⟩ : Fin 1024) k) = X (ix2 r k) := by
  refine congrArg X (congrArg (fun t : Fin 4096 => (ix2 t k : (⟨2, ![4096, n]⟩ : Shape).Idx)) (Fin.ext ?_))
  exact Nat.div_add_mod r.val 1024

/-- An entry of the result, of the row's statistics. -/
theorem layer_apply (X : Vec Ideal S4096x1024 .f32) (R : Vec Ideal S4096x2 .f32) (g b : Vec Ideal S1024 .f32) (r : Fin 4096) (j : Fin 1024) :
    layer X R g b (ix2 r j) = (X (ix2 r j) - R (ix2 r 0)) * R (ix2 r 1) * g (ix1 j) + b (ix1 j) := by
  refine (k2_pay1_apply _ _ _ g b _ j).trans ?_
  refine congrArg₂ (· + ·) (congrArg₂ (· * ·) (congrArg₂ (· * ·) (congrArg₂ (· - ·) ?_ ?_) ?_) rfl) rfl
  · exact block_row X r j _ _
  · exact block_row R r 0 _ _
  · exact block_row R r 1 _ _

/-! ## The whole kernel -/

variable (m : (ℓ : Loc nD τ sig) → Buf (Elt Ideal) ℓ)

/-- Device `c`'s columns at launch. -/
abbrev xOf (c : Dev nD) : Vec Ideal S4096x1024 .f32 := m ((c : Thread nD τ).loc main_arg0)

/-- The mean of row `r`, and the mean of its squares, over all devices. -/
def meanOf (r : Fin 4096) : EReal := Ideal.div (∑ c : Dev nD, ∑ k : Fin 1024, xOf m c (ix2 r k)) count
def squareOf (r : Fin 4096) : EReal := Ideal.div (∑ c : Dev nD, ∑ k : Fin 1024, xOf m c (ix2 r k) * xOf m c (ix2 r k)) count

/-- What every device has gathered. -/
abbrev gathered : Vec Ideal S8x2x4096 .f32 := gath (sumsOf m)

theorem gath_sum (r : Fin 4096) : ∑ c : Fin 8, gathered m (ix3 c 0 r) = ∑ c : Dev nD, ∑ k : Fin 1024, xOf m c (ix2 r k) :=
  Finset.sum_congr rfl fun c _ => partials_sum (xOf m c) r
theorem gath_square (r : Fin 4096) :
    ∑ c : Fin 8, gathered m (ix3 c 1 r) = ∑ c : Dev nD, ∑ k : Fin 1024, xOf m c (ix2 r k) * xOf m c (ix2 r k) :=
  Finset.sum_congr rfl fun c _ => partials_square (xOf m c) r

theorem statsOf_mean (r : Fin 4096) : statsOf m (ix2 r 0) = meanOf m r :=
  (if_pos rfl).trans ((k1_pay3_apply _ r).trans (congrArg (Ideal.div · count) (gath_sum m r)))

theorem statsOf_scale (r : Fin 4096) : statsOf m (ix2 r 1) = Ideal.rsqrt (squareOf m r - meanOf m r * meanOf m r + eps) := by
  refine (if_neg (by decide : ¬ (1 : Fin 2).val = 0)).trans ((k1_pay4_apply _ r).trans ?_)
  rw [gath_sum, gath_square]
  rfl

/-- An entry of the kernel's result. -/
theorem layerOf_apply (c : Dev nD) (r : Fin 4096) (j : Fin 1024) : layerOf m c (ix2 r j)
    = (xOf m c (ix2 r j) - meanOf m r) * Ideal.rsqrt (squareOf m r - meanOf m r * meanOf m r + eps)
      * m ((c : Thread nD τ).loc main_arg1) (ix1 j) + m ((c : Thread nD τ).loc main_arg2) (ix1 j) := by
  refine (layer_apply _ _ _ _ r j).trans ?_
  rw [statsOf_mean, statsOf_scale]

end Cert.KernelIdeal.Norm

end
-- ==== Proof.ReferenceValue.lean ====
/-
  What the reference computes over the extended reals, entry by entry: a row's mean, its variance about the mean, and an
  entry of the result.
-/
module

public import proofs.«01_k».proof.Proof.Equation
public import proofs.«01_k».proof.Proof.Gen.ReferenceIdeal.Run
public import Idealize.ShloMosaic.Lib.IdealHost
public import Idealize.ShloMosaic.Lib.ValueIdx
public import Idealize.ShloMosaic.Lib.ValueLayout

@[expose] public section

noncomputable section

namespace Cert.ReferenceIdeal.Norm

open Idealize.ShloMosaic
open Idealize.ShloMosaic.TcCoe
open Idealize.ShloMosaic.ValueIdx
open Cert.ReferenceIdeal.Gen
open Cert.Norm (count eps count_eq)
open Idealize.SL.Sem

/-! ## The operations at an entry -/

theorem lift_row (h : S4096x8192.Reduces [1] S4096) (i : Fin 4096) (k : Fin 8192) :
    h.lift (ix1 i) k = (ix2 i k : S4096x8192.Idx) := by
  funext x; apply Fin.ext
  fin_cases x <;> rfl

/-- A row's sum. -/
theorem sum_row (v : FVec Ideal S4096x8192 .f32) (i : Fin 4096) :
    Host.reduceAdd v (constant S_ .f32 0x00000000#32) reducesTo_S4096x8192_S4096_d1 h_S_ (ix1 i) = ∑ k : Fin 8192, v (ix2 i k) := by
  refine (hostReduceAdd_apply _ _ _ _ _).trans ((Ideal.hostReduceAdd_single _ (by decide) v _ _).trans ?_)
  have h0 : (constant S_ .f32 0x00000000#32 : FVec Ideal S_ .f32) (Shape.Idx.first h_S_) = (0 : EReal) := by
    show Ideal.ofBits .f32 0x00000000#32 = 0
    simp [Ideal.ofBits, Ideal.ieee]
  rw [h0, zero_add]
  exact Finset.sum_congr rfl fun k _ => congrArg v (lift_row _ i k)

theorem spread_col (v : FVec Ideal S4096 .f32) (i : Fin 4096) : broadcastInDim S4096x1 ![0] bcast_S4096_S4096x1_0 v (ix2 i (0 : Fin 1)) = v (ix1 i) :=
  broadcastInDim_apply _ _ _ _ _ fun a => match a with | ⟨0, _⟩ => rfl

theorem spread_row (v : FVec Ideal S4096x1 .f32) (i : Fin 4096) (j : Fin 8192) :
    broadcastInDim S4096x8192 ![0, 1] bcast_S4096x1_S4096x8192_0_1 v (ix2 i j) = v (ix2 i (0 : Fin 1)) :=
  broadcastInDim_apply _ _ _ _ _ fun a => match a with | ⟨0, _⟩ => rfl | ⟨1, _⟩ => rfl

theorem spread_vec (v : FVec Ideal S8192 .f32) (i : Fin 4096) (j : Fin 8192) :
    broadcastInDim S4096x8192 ![0, 1] bcast_S1x8192_S4096x8192_0_1 (broadcastInDim S1x8192 ![1] bcast_S8192_S1x8192_1 v) (ix2 i j) = v (ix1 j) :=
  (broadcastInDim_apply _ _ _ _ (ix2 (0 : Fin 1) j : S1x8192.Idx) fun a => match a with | ⟨0, _⟩ => rfl | ⟨1, _⟩ => rfl).trans
    (broadcastInDim_apply _ _ _ _ (ix1 j : S8192.Idx) fun a => match a with | ⟨0, _⟩ => rfl)

theorem spread_one {α : Type} (v : S_.Idx → α) (i : S4096x1.Idx) : broadcastInDim S4096x1 ![] bcast_S_S4096x1 v i = v ix0 :=
  broadcastInDim_scalar_apply _ v i

/-! ## The parts of the result -/

variable (x : FVec Ideal S4096x8192 .f32) (g b : FVec Ideal S8192 .f32)

/-- The mean of every row. -/
def mean : FVec Ideal S4096x1 .f32 :=
  Host.divf (broadcastInDim S4096x1 ![0] bcast_S4096_S4096x1_0 (Host.reduceAdd x (constant S_ .f32 0x00000000#32) reducesTo_S4096x8192_S4096_d1 h_S_))
    (broadcastInDim S4096x1 ![] bcast_S_S4096x1 (constant S_ .f32 0x46000000#32))

/-- The distance from the mean. -/
def centred : FVec Ideal S4096x8192 .f32 := subf x (broadcastInDim S4096x8192 ![0, 1] bcast_S4096x1_S4096x8192_0_1 (mean x))

/-- The number of columns less the correction, which is zero. -/
def freedom : FVec Ideal S_ .f32 := subf (constant S_ .f32 0x46000000#32) (sitofp .f32 (constantI S_ 32 0#32))

/-- The variance of every row. -/
def var : FVec Ideal S4096x1 .f32 :=
  select (broadcastInDim S4096x1 ![] bcast_S_S4096x1 (cmpf .ogt freedom (constant S_ .f32 0x00000000#32)))
    (Host.divf (broadcastInDim S4096x1 ![0] bcast_S4096_S4096x1_0
        (Host.reduceAdd (mulf (centred x) (centred x)) (constant S_ .f32 0x00000000#32) reducesTo_S4096x8192_S4096_d1 h_S_))
      (broadcastInDim S4096x1 ![] bcast_S_S4096x1 freedom))
    (broadcastInDim S4096x1 ![] bcast_S_S4096x1 (id (constant S_ .f32 0x7FC00000#32)))

/-- The result. -/
def result : FVec Ideal S4096x8192 .f32 :=
  addf (Host.divf (mulf (broadcastInDim S4096x8192 ![0, 1] bcast_S1x8192_S4096x8192_0_1 (broadcastInDim S1x8192 ![1] bcast_S8192_S1x8192_1 g)) (centred x))
      (broadcastInDim S4096x8192 ![0, 1] bcast_S4096x1_S4096x8192_0_1
        (Host.sqrt (addf (var x) (broadcastInDim S4096x1 ![] bcast_S_S4096x1 (constant S_ .f32 0x3727C5AC#32))))))
    (broadcastInDim S4096x8192 ![0, 1] bcast_S1x8192_S4096x8192_0_1 (broadcastInDim S1x8192 ![1] bcast_S8192_S1x8192_1 b))

/-! ## Their entries -/

theorem mean_apply (r : Fin 4096) : mean x (ix2 r (0 : Fin 1)) = Ideal.div (∑ k : Fin 8192, x (ix2 r k)) count :=
  (hostDivf_apply _ _ _).trans (congrArg₂ Ideal.div ((spread_col _ r).trans (sum_row x r)) (spread_one _ _))

theorem centred_apply (r : Fin 4096) (j : Fin 8192) : centred x (ix2 r j) = x (ix2 r j) - Ideal.div (∑ k : Fin 8192, x (ix2 r k)) count :=
  congrArg (x (ix2 r j) - ·) ((spread_row _ r j).trans (mean_apply x r))

theorem freedom_apply : freedom ix0 = count := by
  show count - (((0#32 : BitVec 32).toInt : ℝ) : EReal) = count
  simp

theorem freedom_pos : cmpf .ogt freedom (constant S_ .f32 0x00000000#32) ix0 = 1#1 := by
  show Ideal.cmp .ogt (freedom ix0) (Ideal.ofBits .f32 0x00000000#32) = 1#1
  rw [freedom_apply, count_eq]
  have h0 : Ideal.ofBits .f32 0x00000000#32 = ((0 : ℝ) : EReal) := by simp [Ideal.ofBits, Ideal.ieee]
  rw [h0]
  simp [Ideal.cmp]

theorem var_apply (r : Fin 4096) : var x (ix2 r (0 : Fin 1))
    = Ideal.div (∑ k : Fin 8192, (x (ix2 r k) - Ideal.div (∑ k : Fin 8192, x (ix2 r k)) count) * (x (ix2 r k) - Ideal.div (∑ k : Fin 8192, x (ix2 r k)) count)) count := by
  refine (select_apply _ _ _ _).trans ?_
  rw [spread_one, freedom_pos]
  refine (if_pos rfl).trans ((hostDivf_apply _ _ _).trans (congrArg₂ Ideal.div ((spread_col _ r).trans ((sum_row _ r).trans ?_)) ((spread_one _ _).trans freedom_apply)))
  exact Finset.sum_congr rfl fun k _ => congrArg₂ (· * ·) (centred_apply x r k) (centred_apply x r k)

/-- An entry of the reference's result. -/
theorem result_apply (r : Fin 4096) (j : Fin 8192) : result x g b (ix2 r j)
    = Ideal.div (g (ix1 j) * (x (ix2 r j) - Ideal.div (∑ k : Fin 8192, x (ix2 r k)) count))
        (Ideal.sqrt (Ideal.div (∑ k : Fin 8192, (x (ix2 r k) - Ideal.div (∑ k : Fin 8192, x (ix2 r k)) count)
          * (x (ix2 r k) - Ideal.div (∑ k : Fin 8192, x (ix2 r k)) count)) count + eps)) + b (ix1 j) := by
  refine congrArg₂ (· + ·) (congrArg₂ Ideal.div (congrArg₂ (· * ·) (spread_vec g r j) (centred_apply x r j)) ?_) (spread_vec b r j)
  refine (spread_row _ r j).trans (congrArg Ideal.sqrt (congrArg₂ (· + ·) (var_apply x r) (spread_one _ _)))

/-- The reference's run, by these names. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.ReferenceIdeal.Norm

end
-- ==== Proof.Algebraic.lean ====
/-
  The kernel's result against the reference's: where all of x is finite, every device ends with its columns of the
  reference's result.
-/
module

public import proofs.«01_k».proof.Proof.Frames
public import proofs.«01_k».proof.Proof.KernelValue
public import proofs.«01_k».proof.Proof.ReferenceValue
public import Idealize.ShloMosaic.Lib.ReduceAll
public import Idealize.ShloMosaic.Lib.Layout

@[expose] public section

noncomputable section

namespace Cert.Norm

open Idealize.ShloMosaic Idealize.ShloMosaic.TcCoe Idealize.SL.Sem
open Idealize.ShloMosaic.ValueIdx
open Cert.KernelIdeal.Norm (xOf meanOf squareOf layerOf layerOf_apply)

attribute [local instance] Cert.Kernel.Gen.facts Cert.KernelIdeal.Gen.facts Cert.ReferenceIdeal.Gen.facts preFacts

/-! ## The precondition -/

/-- A number whose size is less than +∞ is neither infinity. -/
theorem finite_of_size (a : EReal) (h : Ideal.cmp .olt (max a (-a)) (Ideal.ofBits .f32 0x7F800000#32) = 1#1) : a ≠ ⊤ ∧ a ≠ ⊥ := by
  have htop : Ideal.ofBits .f32 0x7F800000#32 = ⊤ := by simp [Ideal.ofBits, Ideal.ieee]
  rw [htop] at h
  refine ⟨fun e => ?_, fun e => ?_⟩ <;> subst e <;> simp [Ideal.cmp] at h

instance : Subsingleton Cert.Pre_finite_x_KernelIdeal.S_.Idx := ⟨fun a b => funext fun x => x.elim0⟩

/-- The precondition on one device: its columns are finite. -/
theorem finite_of_pre (x : Vec Ideal Cert.KernelIdeal.S4096x1024 .f32) (g b : Vec Ideal Cert.KernelIdeal.S1024 .f32)
    (h : Cert.Pre_finite_x_KernelIdeal.fn (F := Idealize.ShloMosaic.Ideal) x g b = fun _ => 1#1) (i : Cert.KernelIdeal.S4096x1024.Idx) :
    x i ≠ ⊤ ∧ x i ≠ ⊥ := by
  refine finite_of_size (x i) ?_
  exact Host.reduce_andi_all _ _ _ _ ix0 (congrFun h ix0) i

/-! ## A device's columns of the whole -/

abbrev cols (c : Fin 8) (j : Fin 1024) : Fin 8192 := ⟨c.val * 1024 + j.val, by have h := c.isLt; have h' := j.isLt; omega⟩

theorem cols_surj (K : Fin 8192) : ∃ c j, K = cols c j :=
  ⟨⟨K.val / 1024, by have := K.isLt; omega⟩, ⟨K.val % 1024, Nat.mod_lt _ (by decide)⟩, Fin.ext (by
    show K.val = K.val / 1024 * 1024 + K.val % 1024
    omega)⟩

theorem block2 (c : Fin 8) (v : FVec Ideal ⟨2, ![4096, 8192]⟩ .f32) (r : Fin 4096) (j : Fin 1024) :
    Layout.block ⟨2, ![4096, 1024]⟩ ⟨2, ![4096, 8192]⟩ 1 8 c v (by decide) (ix2 r j) = v (ix2 r (cols c j)) := by
  refine congrArg v (funext fun a => ?_)
  match a with
  | ⟨0, _⟩ => rfl
  | ⟨1, _⟩ => rfl

theorem block1 (c : Fin 8) (v : FVec Ideal ⟨1, ![8192]⟩ .f32) (j : Fin 1024) :
    Layout.block ⟨1, ![1024]⟩ ⟨1, ![8192]⟩ 0 8 c v (by decide) (ix1 j) = v (ix1 (cols c j)) := by
  refine congrArg v (funext fun a => ?_)
  match a with
  | ⟨0, _⟩ => rfl

/-! ## The equation of the arrays -/

section Arrays

variable (m : (ℓ : Loc Cert.KernelIdeal.nD Cert.KernelIdeal.τ Cert.KernelIdeal.sig) → Buf (Elt Ideal) ℓ)
  (x : FVec Ideal ⟨2, ![4096, 8192]⟩ .f32) (g b : FVec Ideal ⟨1, ![8192]⟩ .f32)
  (hx : ∀ c : Dev Cert.KernelIdeal.nD, xOf m c = Layout.block ⟨2, ![4096, 1024]⟩ ⟨2, ![4096, 8192]⟩ 1 8 c x)

include hx

theorem xOf_apply (c : Fin 8) (r : Fin 4096) (j : Fin 1024) : xOf m c (ix2 r j) = x (ix2 r (cols c j)) :=
  (congrFun (hx c) _).trans (block2 c x r j)

theorem meanOf_eq (r : Fin 4096) : meanOf m r = Ideal.div (∑ K : Fin 8192, x (ix2 r K)) count := by
  refine congrArg (Ideal.div · count) (Eq.symm ((sum_devices _).trans ?_))
  exact Finset.sum_congr rfl fun c _ => Finset.sum_congr rfl fun k _ => (xOf_apply m x hx c r k).symm

theorem squareOf_eq (r : Fin 4096) : squareOf m r = Ideal.div (∑ K : Fin 8192, x (ix2 r K) * x (ix2 r K)) count := by
  refine congrArg (Ideal.div · count) (Eq.symm ((sum_devices _).trans ?_))
  exact Finset.sum_congr rfl fun c _ => Finset.sum_congr rfl fun k _ => (congrArg₂ (· * ·) (xOf_apply m x hx c r k) (xOf_apply m x hx c r k)).symm

/-- Device `c`'s result is its columns of the reference's. -/
theorem layerOf_eq
    (hg : ∀ c : Dev Cert.KernelIdeal.nD, m ((c : Thread Cert.KernelIdeal.nD Cert.KernelIdeal.τ).loc Cert.KernelIdeal.main_arg1) = Layout.block ⟨1, ![1024]⟩ ⟨1, ![8192]⟩ 0 8 c g)
    (hb : ∀ c : Dev Cert.KernelIdeal.nD, m ((c : Thread Cert.KernelIdeal.nD Cert.KernelIdeal.τ).loc Cert.KernelIdeal.main_arg2) = Layout.block ⟨1, ![1024]⟩ ⟨1, ![8192]⟩ 0 8 c b)
    (hfin : ∀ (c : Dev Cert.KernelIdeal.nD) (i : Cert.KernelIdeal.S4096x1024.Idx), xOf m c i ≠ ⊤ ∧ xOf m c i ≠ ⊥) (c : Dev Cert.KernelIdeal.nD) :
    layerOf m c = Layout.block ⟨2, ![4096, 1024]⟩ ⟨2, ![4096, 8192]⟩ 1 8 c (Cert.ReferenceIdeal.Norm.result x g b) := by
  funext i
  obtain ⟨r, j, rfl⟩ : ∃ (r : Fin 4096) (j : Fin 1024), i = ix2 r j := ⟨i 0, i 1, eq_ix2 i⟩
  refine (layerOf_apply m c r j).trans (Eq.trans ?_ (block2 c (Cert.ReferenceIdeal.Norm.result x g b) r j).symm)
  rw [Cert.ReferenceIdeal.Norm.result_apply, meanOf_eq m x hx, squareOf_eq m x hx, xOf_apply m x hx, (congrFun (hg c) (ix1 j)).trans (block1 c g j),
    (congrFun (hb c) (ix1 j)).trans (block1 c b j)]
  refine equation (fun K => x (ix2 r K)) (fun K => ?_) (cols c j) _ _
  obtain ⟨d, k, rfl⟩ := cols_surj K
  have h := hfin d (ix2 r k)
  rwa [xOf_apply m x hx] at h

end Arrays

/-- The value claim. -/
theorem algebraic : Cert.algebraic_KernelIdeal_ReferenceIdeal_pre_finite_x_KernelIdeal (hPre_finite_x_KernelIdeal := preFacts) := fun m ρ m' ρ' hpre hargs =>
  ⟨Cert.ReferenceIdeal.Norm.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono
      (fun _ h c => ⟨(h.1 c).1.trans (layerOf_eq m _ _ _ (fun d => (hargs d).1) (fun d => (hargs d).2.1) (fun d => (hargs d).2.2)
        (fun d => finite_of_pre _ _ _ (hpre d)) c), (h.1 c).2⟩)
      (Cert.KernelIdeal.Norm.run_main (F := Ideal) m ρ),
    (θ_run Cert.ReferenceIdeal.defs _ _).mono (fun _ h => h 0) (Cert.ReferenceIdeal.Norm.run m' ρ')⟩

end Cert.Norm

end
-- ==== Proof.lean ====
/-
  The certificate: the frames, and the kernel's result against the reference's.
-/
module

public import proofs.«01_k».proof.Defs
public import proofs.«01_k».proof.Proof.Frames
public import proofs.«01_k».proof.Proof.Algebraic

@[expose] public section

noncomputable section

namespace Cert.Proof

open Cert.Norm

theorem claim : Cert.Claim :=
  ⟨Cert.Kernel.Gen.facts, Cert.KernelIdeal.Gen.facts, Cert.ReferenceIdeal.Gen.facts, preFacts, refPreFacts,
    frame_kernel, frame_ideal, frame_ideal_finite, frame_reference, frame_reference_finite, trivial, algebraic⟩

end Cert.Proof

end
